-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_library [hPre_finite_library : Cert.Pre_finite_library.Facts] (m : (ℓ : Loc Cert.KernelIdeal.nD Cert.KernelIdeal.τ Cert.KernelIdeal.sig) → Buf (Elt Ideal) ℓ) : Prop :=
  ∀ c : Dev Cert.KernelIdeal.nD,
    (Cert.Pre_finite_library.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_library [hPre_finite_library : Cert.Pre_finite_library.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_library.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_library [hKernelIdeal : Cert.KernelIdeal.Facts] [hPre_finite_library : Cert.Pre_finite_library.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_library m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_library [hReferenceIdeal : Cert.ReferenceIdeal.Facts] [hPre_finite_library : Cert.Pre_finite_library.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_library m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_library [hKernelIdeal : Cert.KernelIdeal.Facts] [hReferenceIdeal : Cert.ReferenceIdeal.Facts] [hPre_finite_library : Cert.Pre_finite_library.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_library m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_library : Cert.Pre_finite_library.Facts),
    quiescent_Kernel (hKernel := hKernel)
    ∧ quiescent_KernelIdeal (hKernelIdeal := hKernelIdeal)
    ∧ quiescent_KernelIdeal_pre_finite_library (hKernelIdeal := hKernelIdeal) (hPre_finite_library := hPre_finite_library)
    ∧ quiescent_ReferenceIdeal (hReferenceIdeal := hReferenceIdeal)
    ∧ quiescent_ReferenceIdeal_pre_finite_library (hReferenceIdeal := hReferenceIdeal) (hPre_finite_library := hPre_finite_library)
    ∧ preserves_Kernel_KernelIdeal
    ∧ algebraic_KernelIdeal_ReferenceIdeal_pre_finite_library (hKernelIdeal := hKernelIdeal) (hReferenceIdeal := hReferenceIdeal) (hPre_finite_library := hPre_finite_library)
-- ==== Pre_finite_library.lean ====
abbrev S3136x1152 : Shape := ⟨2, ![3136, 1152]⟩
abbrev S16384x1152 : Shape := ⟨2, ![16384, 1152]⟩
abbrev S_ : Shape := ⟨0, ![]⟩

class Facts : Prop where
  bcast_S_S16384x1152 : S_.BroadcastsInDim S16384x1152 (![] : Fin 0 → Fin S16384x1152.rank)
  reducesTo_S16384x1152_S_d0_1 : S16384x1152.ReducesTo [0, 1] S_
  h_S_ : 0 < S_.numel

variable [Facts]

def fn {F : FTy → Type} [FloatOps F] (main_arg0 : FVec F S3136x1152 .f32) (main_arg1 : FVec F S16384x1152 .f32) : IVec S_ 1 :=
  let main_v0 : FVec F S16384x1152 .f32 := Host.absf main_arg1
  let main_cst : FVec F S_ .f32 := constant S_ .f32 0x7F800000#32
  let main_v1 : FVec F S16384x1152 .f32 := broadcastInDim S16384x1152 ![] bcast_S_S16384x1152 main_cst
  let main_v2 : IVec S16384x1152 1 := cmpf .olt main_v0 main_v1
  let main_c : IVec S_ 1 := constantI S_ 1 1#1
  let main_v3 : IVec S_ 1 := (fun x v => Host.reduce IntOp.andi x v reducesTo_S16384x1152_S_d0_1 h_S_) main_v2 main_c
  main_v3
-- ==== Kernel.lean ====
abbrev S3136x1152 : Shape := ⟨2, ![3136, 1152]⟩
abbrev S16384x1152 : Shape := ⟨2, ![16384, 1152]⟩
abbrev S3136x1 : Shape := ⟨2, ![3136, 1]⟩
abbrev S1x1152 : Shape := ⟨2, ![1, 1152]⟩
abbrev S1x16384 : Shape := ⟨2, ![1, 16384]⟩
abbrev S1x1 : Shape := ⟨2, ![1, 1]⟩
abbrev S_ : Shape := ⟨0, ![]⟩
abbrev S56x56 : Shape := ⟨2, ![56, 56]⟩
abbrev S224 : Shape := ⟨1, ![224]⟩
abbrev S224x1 : Shape := ⟨2, ![224, 1]⟩
abbrev S56 : Shape := ⟨1, ![56]⟩
abbrev S1x56 : Shape := ⟨2, ![1, 56]⟩
abbrev S224x56 : Shape := ⟨2, ![224, 56]⟩
abbrev S56x224 : Shape := ⟨2, ![56, 224]⟩
abbrev S224x224 : Shape := ⟨2, ![224, 224]⟩
abbrev S1x1x224x224 : Shape := ⟨4, ![1, 1, 224, 224]⟩
abbrev S512x1152 : Shape := ⟨2, ![512, 1152]⟩
abbrev S3136x512 : Shape := ⟨2, ![3136, 512]⟩
abbrev S3136 : Shape := ⟨1, ![3136]⟩
abbrev S512 : Shape := ⟨1, ![512]⟩
abbrev S1x512 : Shape := ⟨2, ![1, 512]⟩
abbrev S1x3136x1 : Shape := ⟨3, ![1, 3136, 1]⟩
abbrev S1 : Shape := ⟨1, ![1]⟩
abbrev S1x1x1 : Shape := ⟨3, ![1, 1, 1]⟩
abbrev S1152 : Shape := ⟨1, ![1152]⟩
abbrev S1x56x56 : Shape := ⟨3, ![1, 56, 56]⟩

abbrev nBuf : Space → Nat
  | .hbm => 48
  | .vmem => 23
  | .smem => 0
  | _ => 0

abbrev bufTy : (tb : Table) → Fin (tcTables nBuf tb) → BufTy
  | .hbm, ⟨0, _⟩ => ⟨S3136x1152, .f32⟩
  | .hbm, ⟨1, _⟩ => ⟨S16384x1152, .f32⟩
  | .hbm, ⟨2, _⟩ => ⟨S3136x1, .f32⟩
  | .hbm, ⟨3, _⟩ => ⟨S1x1152, .f32⟩
  | .hbm, ⟨4, _⟩ => ⟨S1x16384, .f32⟩
  | .hbm, ⟨5, _⟩ => ⟨S1x1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1x1152, .f32⟩
  | .hbm, ⟨14, _⟩ => ⟨S56x56, .f32⟩
  | .hbm, ⟨15, _⟩ => ⟨S224, .f32⟩
  | .hbm, ⟨16, _⟩ => ⟨S_, .f32⟩
  | .hbm, ⟨17, _⟩ => ⟨S224, .f32⟩
  | .hbm, ⟨18, _⟩ => ⟨S224, .f32⟩
  | .hbm, ⟨19, _⟩ => ⟨S_, .f32⟩
  | .hbm, ⟨20, _⟩ => ⟨S224, .f32⟩
  | .hbm, ⟨21, _⟩ => ⟨S224, .f32⟩
  | .hbm, ⟨22, _⟩ => ⟨S_, .f32⟩
  | .hbm, ⟨23, _⟩ => ⟨S224, .f32⟩
  | .hbm, ⟨24, _⟩ => ⟨S224, .f32⟩
  | .hbm, ⟨25, _⟩ => ⟨S224x1, .f32⟩
  | .hbm, ⟨26, _⟩ => ⟨S56, .f32⟩
  | .hbm, ⟨27, _⟩ => ⟨S1x56, .f32⟩
  | .hbm, ⟨28, _⟩ => ⟨S224x56, .f32⟩
  | .hbm, ⟨29, _⟩ => ⟨S224x56, .f32⟩
  | .hbm, ⟨30, _⟩ => ⟨S224x56, .f32⟩
  | .hbm, ⟨31, _⟩ => ⟨S224x56, .f32⟩
  | .hbm, ⟨32, _⟩ => ⟨S_, .f32⟩
  | .hbm, ⟨33, _⟩ => ⟨S224x56, .f32⟩
  | .hbm, ⟨34, _⟩ => ⟨S224x56, .f32⟩
  | .hbm, ⟨35, _⟩ => ⟨S_, .f32⟩
  | .hbm, ⟨36, _⟩ => ⟨S224x56, .f32⟩
  | .hbm, ⟨37, _⟩ => ⟨S224x56, .f32⟩
  | .hbm, ⟨38, _⟩ => ⟨S_, .f32⟩
  | .hbm, ⟨39, _⟩ => ⟨S224, .f32⟩
  | .hbm, ⟨40, _⟩ => ⟨S224x1, .f32⟩
  | .hbm, ⟨41, _⟩ => ⟨S224x56, .f32⟩
  | .hbm, ⟨42, _⟩ => ⟨S224x56, .f32⟩
  | .hbm, ⟨43, _⟩ => ⟨S56x224, .f32⟩
  | .hbm, ⟨44, _⟩ => ⟨S1x1, .f32⟩
  | .hbm, ⟨45, _⟩ => ⟨S224x224, .f32⟩
  | .hbm, ⟨46, _⟩ => ⟨S_, .f32⟩
  | .hbm, ⟨47, _⟩ => ⟨S1x1x224x224, .f32⟩
  | .local _ .vmem, ⟨0, _⟩ => ⟨S3136x1152, .f32⟩
  | .local _ .vmem, ⟨1, _⟩ => ⟨S512x1152, .f32⟩
  | .local _ .vmem, ⟨2, _⟩ => ⟨S512x1152, .f32⟩
  | .local _ .vmem, ⟨3, _⟩ => ⟨S3136x1, .f32⟩
  | .local _ .vmem, ⟨4, _⟩ => ⟨S1x1152, .f32⟩
  | .local _ .vmem, ⟨5, _⟩ => ⟨S3136x1, .f32⟩
  | .local _ .vmem, ⟨6, _⟩ => ⟨S3136x512, .f32⟩
  | .local _ .vmem, ⟨7, _⟩ => ⟨S1x1152, .f32⟩
  | .local _ .vmem, ⟨8, _⟩ => ⟨S512x1152, .f32⟩
  | .local _ .vmem, ⟨9, _⟩ => ⟨S512x1152, .f32⟩
  | .local _ .vmem, ⟨10, _⟩ => ⟨S1x16384, .f32⟩
  | .local _ .vmem, ⟨11, _⟩ => ⟨S1x1, .i32⟩
  | .local _ .vmem, ⟨12, _⟩ => ⟨S1x16384, .f32⟩
  | .local _ .vmem, ⟨13, _⟩ => ⟨S1x1152, .f32⟩
  | .local _ .vmem, ⟨14, _⟩ => ⟨S512x1152, .f32⟩
  | .local _ .vmem, ⟨15, _⟩ => ⟨S512x1152, .f32⟩
  | .local _ .vmem, ⟨16, _⟩ => ⟨S1x16384, .f32⟩
  | .local _ .vmem, ⟨17, _⟩ => ⟨S56x56, .f32⟩
  | .local _ .vmem, ⟨18, _⟩ => ⟨S224x56, .f32⟩
  | .local _ .vmem, ⟨19, _⟩ => ⟨S56x224, .f32⟩
  | .local _ .vmem, ⟨20, _⟩ => ⟨S1x1, .f32⟩
  | .local _ .vmem, ⟨21, _⟩ => ⟨S224x224, .f32⟩
  | .local _ .vmem, ⟨22, _⟩ => ⟨S1x16384, .f32⟩
  | _, _ => ⟨S3136x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v1_0 : Ref sig .tc := ⟨.hbm, 4, rfl⟩
abbrev main_call0_v1_1 : Ref sig .tc := ⟨.hbm, 5, rfl⟩
abbrev main_call0_v2 : Ref sig .tc := ⟨.hbm, 6, rfl⟩
abbrev main_call0_c : Ref sig .tc := ⟨.hbm, 7, rfl⟩
abbrev main_call0_v3 : Ref sig .tc := ⟨.hbm, 8, rfl⟩
abbrev main_call0_c_0 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_cst : Ref sig .tc := ⟨.hbm, 16, rfl⟩
abbrev main_call0_v9 : Ref sig .tc := ⟨.hbm, 17, rfl⟩
abbrev main_call0_v10 : Ref sig .tc := ⟨.hbm, 18, rfl⟩
abbrev main_call0_cst_2 : Ref sig .tc := ⟨.hbm, 19, rfl⟩
abbrev main_call0_v11 : Ref sig .tc := ⟨.hbm, 20, rfl⟩
abbrev main_call0_v12 : Ref sig .tc := ⟨.hbm, 21, rfl⟩
abbrev main_call0_cst_3 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_cst_4 : Ref sig .tc := ⟨.hbm, 32, rfl⟩
abbrev main_call0_v22 : Ref sig .tc := ⟨.hbm, 33, rfl⟩
abbrev main_call0_v23 : Ref sig .tc := ⟨.hbm, 34, rfl⟩
abbrev main_call0_cst_5 : Ref sig .tc := ⟨.hbm, 35, rfl⟩
abbrev main_call0_v24 : Ref sig .tc := ⟨.hbm, 36, rfl⟩
abbrev main_call0_v25 : Ref sig .tc := ⟨.hbm, 37, rfl⟩
abbrev main_call0_cst_6 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31_0 : Ref sig .tc := ⟨.hbm, 44, rfl⟩
abbrev main_call0_v31_1 : Ref sig .tc := ⟨.hbm, 45, rfl⟩
abbrev main_v0_0 : Ref sig .tc := ⟨.hbm, 46, rfl⟩
abbrev main_v0_1 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_scratch0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3136x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3136x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def k1_off1 (i : grid1.Coords) : Fin 2 → Nat :=
  let c0_6 : Index := 0#32
  let arg0 : BitVec 32 := BitVec.ofNat 32 (i 0).val
  let c512_i32 : BitVec 32 := 512#32
  let v15 : BitVec 32 := Scalar.muli arg0 c512_i32
  let v16 : Index := Scalar.indexCast v15
  ![0, v16.toNat]
def k1_cond1 (i : grid1.Coords) : BitVec 1 :=
  let arg0 : BitVec 32 := BitVec.ofNat 32 (i 0).val
  let c31_i32 : BitVec 32 := 31#32
  let v20 : BitVec 1 := Scalar.cmpi .eq arg0 c31_i32
  let v21 : BitVec 32 := Scalar.extui v20
  let c0_i32 : BitVec 32 := 0#32
  let v22 : BitVec 1 := Scalar.cmpi .ne v21 c0_i32
  v22

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1152 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x1152 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def k2_off1 (i : grid2.Coords) : Fin 2 → Nat :=
  let c0_6 : Index := 0#32
  let arg0 : BitVec 32 := BitVec.ofNat 32 (i 0).val
  let c512_i32 : BitVec 32 := 512#32
  let v15 : BitVec 32 := Scalar.muli arg0 c512_i32
  let v16 : Index := Scalar.indexCast v15
  ![0, v16.toNat]
def k2_cond1 (i : grid2.Coords) : BitVec 1 :=
  let arg0 : BitVec 32 := BitVec.ofNat 32 (i 0).val
  let c31_i32 : BitVec 32 := 31#32
  let v20 : BitVec 1 := Scalar.cmpi .eq arg0 c31_i32
  let v21 : BitVec 32 := Scalar.extui v20
  let c0_i32 : BitVec 32 := 0#32
  let v22 : BitVec 1 := Scalar.cmpi .ne v21 c0_i32
  v22

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x1152 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x1152 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S56x56 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S224x56 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S56x224 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S224x224 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== ReferenceIdeal.lean ====
abbrev S3136x1152 : Shape := ⟨2, ![3136, 1152]⟩
abbrev S16384x1152 : Shape := ⟨2, ![16384, 1152]⟩
abbrev S_ : Shape := ⟨0, ![]⟩
abbrev S3136 : Shape := ⟨1, ![3136]⟩
abbrev S3136x1 : Shape := ⟨2, ![3136, 1]⟩
abbrev S16384 : Shape := ⟨1, ![16384]⟩
abbrev S16384x1 : Shape := ⟨2, ![16384, 1]⟩
abbrev S1x16384 : Shape := ⟨2, ![1, 16384]⟩
abbrev S3136x16384 : Shape := ⟨2, ![3136, 16384]⟩
abbrev S1152x16384 : Shape := ⟨2, ![1152, 16384]⟩
abbrev S1x1152 : Shape := ⟨2, ![1, 1152]⟩
abbrev S1152 : Shape := ⟨1, ![1152]⟩
abbrev S1 : Shape := ⟨1, ![1]⟩
abbrev S1x1 : Shape := ⟨2, ![1, 1]⟩
abbrev S1x3 : Shape := ⟨2, ![1, 3]⟩
abbrev S1x2 : Shape := ⟨2, ![1, 2]⟩
abbrev S2 : Shape := ⟨1, ![2]⟩
abbrev S2x1 : Shape := ⟨2, ![2, 1]⟩
abbrev S2x1152 : Shape := ⟨2, ![2, 1152]⟩
abbrev S1x1x56x56 : Shape := ⟨4, ![1, 1, 56, 56]⟩
abbrev S224 : Shape := ⟨1, ![224]⟩
abbrev S56 : Shape := ⟨1, ![56]⟩
abbrev S1x224 : Shape := ⟨2, ![1, 224]⟩
abbrev S56x1 : Shape := ⟨2, ![56, 1]⟩
abbrev S56x224 : Shape := ⟨2, ![56, 224]⟩
abbrev S224x1x1x56 : Shape := ⟨4, ![224, 1, 1, 56]⟩
abbrev S224x1x1x224 : Shape := ⟨4, ![224, 1, 1, 224]⟩
abbrev S1x1x224x224 : Shape := ⟨4, ![1, 1, 224, 224]⟩

abbrev nBuf : Space → Nat
  | .hbm => 263
  | .vmem => 0
  | .smem => 0
  | _ => 0

abbrev hbmTy0_0 (i : Nat) : BufTy := match i % 128 with
  | 0 => ⟨S3136x1152, .f32⟩
  | 1 => ⟨S16384x1152, .f32⟩
  | 2 => ⟨S3136x1152, .f32⟩
  | 3 => ⟨S_, .f32⟩
  | 4 => ⟨S3136, .f32⟩
  | 5 => ⟨S3136x1, .f32⟩
  | 6 => ⟨S16384x1152, .f32⟩
  | 7 => ⟨S_, .f32⟩
  | 8 => ⟨S16384, .f32⟩
  | 9 => ⟨S16384x1, .f32⟩
  | 10 => ⟨S1x16384, .f32⟩
  | 11 => ⟨S3136x16384, .f32⟩
  | 12 => ⟨S3136x16384, .f32⟩
  | 13 => ⟨S3136x16384, .f32⟩
  | 14 => ⟨S1152x16384, .f32⟩
  | 15 => ⟨S3136x16384, .f32⟩
  | 16 => ⟨S_, .f32⟩
  | 17 => ⟨S3136x16384, .f32⟩
  | 18 => ⟨S3136x16384, .f32⟩
  | 19 => ⟨S3136x16384, .f32⟩
  | 20 => ⟨S_, .f32⟩
  | 21 => ⟨S3136x16384, .f32⟩
  | 22 => ⟨S3136x16384, .f32⟩
  | 23 => ⟨S3136x16384, .f32⟩
  | 24 => ⟨S_, .f32⟩
  | 25 => ⟨S3136, .f32⟩
  | 26 => ⟨S3136x16384, .i32⟩
  | 27 => ⟨S_, .f32⟩
  | 28 => ⟨S_, .i32⟩
  | 29 => ⟨S3136, .f32⟩
  | 30 => ⟨S3136, .i32⟩
  | 31 => ⟨S3136, .i32⟩
  | 32 => ⟨S_, .f32⟩
  | 33 => ⟨S_, .i32⟩
  | 34 => ⟨S_, .f32⟩
  | 35 => ⟨S_, .i32⟩
  | 36 => ⟨S_, .f32⟩
  | 37 => ⟨S_, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x1152, .f32⟩
  | 52 => ⟨S1152, .f32⟩
  | 53 => ⟨S1x1152, .f32⟩
  | 54 => ⟨S_, .i32⟩
  | 55 => ⟨S_, .i1⟩
  | 56 => ⟨S_, .i32⟩
  | 57 => ⟨S_, .i32⟩
  | 58 => ⟨S_, .i32⟩
  | 59 => ⟨S1, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S1x1152, .f32⟩
  | 75 => ⟨S1152, .f32⟩
  | 76 => ⟨S1x1152, .f32⟩
  | 77 => ⟨S1x1152, .f32⟩
  | 78 => ⟨S_, .f32⟩
  | 79 => ⟨S1, .f32⟩
  | 80 => ⟨S1x1, .f32⟩
  | 81 => ⟨S16384x1152, .f32⟩
  | 82 => ⟨S_, .f32⟩
  | 83 => ⟨S16384, .f32⟩
  | 84 => ⟨S16384x1, .f32⟩
  | 85 => ⟨S1x16384, .f32⟩
  | 86 => ⟨S1x16384, .f32⟩
  | 87 => ⟨S1x16384, .f32⟩
  | 88 => ⟨S1152x16384, .f32⟩
  | 89 => ⟨S1x16384, .f32⟩
  | 90 => ⟨S_, .f32⟩
  | 91 => ⟨S1x16384, .f32⟩
  | 92 => ⟨S1x16384, .f32⟩
  | 93 => ⟨S1x16384, .f32⟩
  | 94 => ⟨S_, .f32⟩
  | 95 => ⟨S1x16384, .f32⟩
  | 96 => ⟨S1x16384, .f32⟩
  | 97 => ⟨S1x16384, .f32⟩
  | 98 => ⟨S1x16384, .f32⟩
  | 99 => ⟨S1x3, .f32⟩
  | 100 => ⟨S1x3, .i32⟩
  | 101 => ⟨S1x2, .i32⟩
  | 102 => ⟨S2, .i32⟩
  | 103 => ⟨S_, .i32⟩
  | 104 => ⟨S2, .i32⟩
  | 105 => ⟨S2, .i1⟩
  | 106 => ⟨S_, .i32⟩
  | 107 => ⟨S2, .i32⟩
  | 108 => ⟨S2, .i32⟩
  | 109 => ⟨S2, .i32⟩
  | 110 => ⟨S2x1, .i32⟩
  | 111 => ⟨S2x1152, .f32⟩
  | 112 => ⟨S2x1152, .f32⟩
  | 113 => ⟨S2x1152, .f32⟩
  | 114 => ⟨S2x1152, .f32⟩
  | 115 => ⟨S_, .f32⟩
  | 116 => ⟨S2, .f32⟩
  | 117 => ⟨S2, .f32⟩
  | 118 => ⟨S_, .f32⟩
  | 119 => ⟨S_, .f32⟩
  | 120 => ⟨S_, .f32⟩
  | 121 => ⟨S_, .f32⟩
  | 122 => ⟨S2, .f32⟩
  | 123 => ⟨S2, .f32⟩
  | 124 => ⟨S2, .f32⟩
  | 125 => ⟨S_, .f32⟩
  | 126 => ⟨S_, .f32⟩
  | 127 => ⟨S_, .f32⟩
  | _ => ⟨S3136x1152, .f32⟩

abbrev hbmTy0_1 (i : Nat) : BufTy := match i % 128 with
  | 0 => ⟨S_, .f32⟩
  | 1 => ⟨S_, .f32⟩
  | 2 => ⟨S_, .f32⟩
  | 3 => ⟨S1x1x56x56, .f32⟩
  | 4 => ⟨S_, .f32⟩
  | 5 => ⟨S_, .f32⟩
  | 6 => ⟨S_, .f32⟩
  | 7 => ⟨S224, .f32⟩
  | 8 => ⟨S_, .f32⟩
  | 9 => ⟨S224, .f32⟩
  | 10 => ⟨S224, .f32⟩
  | 11 => ⟨S_, .f32⟩
  | 12 => ⟨S224, .f32⟩
  | 13 => ⟨S224, .f32⟩
  | 14 => ⟨S_, .f32⟩
  | 15 => ⟨S224, .f32⟩
  | 16 => ⟨S224, .f32⟩
  | 17 => ⟨S_, .f32⟩
  | 18 => ⟨S224, .f32⟩
  | 19 => ⟨S224, .f32⟩
  | 20 => ⟨S56, .f32⟩
  | 21 => ⟨S1x224, .f32⟩
  | 22 => ⟨S56x1, .f32⟩
  | 23 => ⟨S56x224, .f32⟩
  | 24 => ⟨S56x224, .f32⟩
  | 25 => ⟨S56x224, .f32⟩
  | 26 => ⟨S56x224, .f32⟩
  | 27 => ⟨S_, .f32⟩
  | 28 => ⟨S56x224, .f32⟩
  | 29 => ⟨S56x224, .f32⟩
  | 30 => ⟨S56x224, .f32⟩
  | 31 => ⟨S_, .f32⟩
  | 32 => ⟨S56x224, .f32⟩
  | 33 => ⟨S56x224, .f32⟩
  | 34 => ⟨S_, .f32⟩
  | 35 => ⟨S56x224, .f32⟩
  | 36 => ⟨S56x224, .f32⟩
  | 37 => ⟨S_, .f32⟩
  | 38 => ⟨S224, .f32⟩
  | 39 => ⟨S1x224, .f32⟩
  | 40 => ⟨S1x224, .f32⟩
  | 41 => ⟨S_, .f32⟩
  | 42 => ⟨S1x224, .f32⟩
  | 43 => ⟨S1x224, .i1⟩
  | 44 => ⟨S_, .f32⟩
  | 45 => ⟨S1x224, .f32⟩
  | 46 => ⟨S1x224, .i1⟩
  | 47 => ⟨S_, .f32⟩
  | 48 => ⟨S1x224, .f32⟩
  | 49 => ⟨S1x224, .f32⟩
  | 50 => ⟨S56x224, .f32⟩
  | 51 => ⟨S56x224, .f32⟩
  | 52 => ⟨S56x224, .i1⟩
  | 53 => ⟨S_, .f32⟩
  | 54 => ⟨S56x224, .f32⟩
  | 55 => ⟨S56x224, .f32⟩
  | 56 => ⟨S_, .f32⟩
  | 57 => ⟨S224, .f32⟩
  | 58 => ⟨S224, .i1⟩
  | 59 => ⟨S_, .f32⟩
  | 60 => ⟨S224, .f32⟩
  | 61 => ⟨S224, .i1⟩
  | 62 => ⟨S224, .i1⟩
  | 63 => ⟨S1x224, .i1⟩
  | 64 => ⟨S56x224, .i1⟩
  | 65 => ⟨S_, .f32⟩
  | 66 => ⟨S56x224, .f32⟩
  | 67 => ⟨S56x224, .f32⟩
  | 68 => ⟨S_, .f32⟩
  | 69 => ⟨S_, .f32⟩
  | 70 => ⟨S_, .f32⟩
  | 71 => ⟨S224, .f32⟩
  | 72 => ⟨S_, .f32⟩
  | 73 => ⟨S224, .f32⟩
  | 74 => ⟨S224, .f32⟩
  | 75 => ⟨S_, .f32⟩
  | 76 => ⟨S224, .f32⟩
  | 77 => ⟨S224, .f32⟩
  | 78 => ⟨S_, .f32⟩
  | 79 => ⟨S224, .f32⟩
  | 80 => ⟨S224, .f32⟩
  | 81 => ⟨S_, .f32⟩
  | 82 => ⟨S224, .f32⟩
  | 83 => ⟨S224, .f32⟩
  | 84 => ⟨S56, .f32⟩
  | 85 => ⟨S1x224, .f32⟩
  | 86 => ⟨S56x1, .f32⟩
  | 87 => ⟨S56x224, .f32⟩
  | 88 => ⟨S56x224, .f32⟩
  | 89 => ⟨S56x224, .f32⟩
  | 90 => ⟨S56x224, .f32⟩
  | 91 => ⟨S_, .f32⟩
  | 92 => ⟨S56x224, .f32⟩
  | 93 => ⟨S56x224, .f32⟩
  | 94 => ⟨S56x224, .f32⟩
  | 95 => ⟨S_, .f32⟩
  | 96 => ⟨S56x224, .f32⟩
  | 97 => ⟨S56x224, .f32⟩
  | 98 => ⟨S_, .f32⟩
  | 99 => ⟨S56x224, .f32⟩
  | 100 => ⟨S56x224, .f32⟩
  | 101 => ⟨S_, .f32⟩
  | 102 => ⟨S224, .f32⟩
  | 103 => ⟨S1x224, .f32⟩
  | 104 => ⟨S1x224, .f32⟩
  | 105 => ⟨S_, .f32⟩
  | 106 => ⟨S1x224, .f32⟩
  | 107 => ⟨S1x224, .i1⟩
  | 108 => ⟨S_, .f32⟩
  | 109 => ⟨S1x224, .f32⟩
  | 110 => ⟨S1x224, .i1⟩
  | 111 => ⟨S_, .f32⟩
  | 112 => ⟨S1x224, .f32⟩
  | 113 => ⟨S1x224, .f32⟩
  | 114 => ⟨S56x224, .f32⟩
  | 115 => ⟨S56x224, .f32⟩
  | 116 => ⟨S56x224, .i1⟩
  | 117 => ⟨S_, .f32⟩
  | 118 => ⟨S56x224, .f32⟩
  | 119 => ⟨S56x224, .f32⟩
  | 120 => ⟨S_, .f32⟩
  | 121 => ⟨S224, .f32⟩
  | 122 => ⟨S224, .i1⟩
  | 123 => ⟨S_, .f32⟩
  | 124 => ⟨S224, .f32⟩
  | 125 => ⟨S224, .i1⟩
  | 126 => ⟨S224, .i1⟩
  | 127 => ⟨S1x224, .i1⟩
  | _ => ⟨S3136x1152, .f32⟩

abbrev hbmTy0_2 (i : Nat) : BufTy := match i % 128 with
  | 0 => ⟨S56x224, .i1⟩
  | 1 => ⟨S_, .f32⟩
  | 2 => ⟨S56x224, .f32⟩
  | 3 => ⟨S56x224, .f32⟩
  | 4 => ⟨S224x1x1x56, .f32⟩
  | 5 => ⟨S224x1x1x224, .f32⟩
  | 6 => ⟨S1x1x224x224, .f32⟩
  | _ => ⟨S3136x1152, .f32⟩

abbrev hbmTy (i : Nat) : BufTy := match i / 128 with
  | 0 => hbmTy0_0 i
  | 1 => hbmTy0_1 i
  | 2 => hbmTy0_2 i
  | _ => ⟨S3136x1152, .f32⟩

abbrev bufTy : (tb : Table) → Fin (tcTables nBuf tb) → BufTy
  | .hbm, ⟨i, _⟩ => hbmTy i
  | _, _ => ⟨S3136x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v19 : Ref sig .tc := ⟨.hbm, 30, rfl⟩
abbrev main_call1_v0 : Ref sig .tc := ⟨.hbm, 31, rfl⟩
abbrev main_call1_cst : Ref sig .tc := ⟨.hbm, 32, rfl⟩
abbrev main_call1_c : Ref sig .tc := ⟨.hbm, 33, rfl⟩
abbrev main_call1_v1_0 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_c_7 : Ref sig .tc := ⟨.hbm, 44, rfl⟩
abbrev main_v25 : Ref sig .tc := ⟨.hbm, 45, rfl⟩
abbrev main_c_8 : Ref sig .tc := ⟨.hbm, 46, rfl⟩
abbrev main_c_9 : Ref sig .tc := ⟨.hbm, 47, rfl⟩
abbrev main_v26 : Ref sig .tc := ⟨.hbm, 48, rfl⟩
abbrev main_c_10 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_11 : Ref sig .tc := ⟨.hbm, 54, rfl⟩
abbrev main_v31 : Ref sig .tc := ⟨.hbm, 55, rfl⟩
abbrev main_c_12 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_13 : Ref sig .tc := ⟨.hbm, 61, rfl⟩
abbrev main_v36 : Ref sig .tc := ⟨.hbm, 62, rfl⟩
abbrev main_c_14 : Ref sig .tc := ⟨.hbm, 63, rfl⟩
abbrev main_v37 : Ref sig .tc := ⟨.hbm, 64, rfl⟩
abbrev main_v38 : Ref sig .tc := ⟨.hbm, 65, rfl⟩
abbrev main_c_15 : Ref sig .tc := ⟨.hbm, 66, rfl⟩
abbrev main_c_16 : Ref sig .tc := ⟨.hbm, 67, rfl⟩
abbrev main_v39 : Ref sig .tc := ⟨.hbm, 68, rfl⟩
abbrev main_c_17 : Ref sig .tc := ⟨.hbm, 69, rfl⟩
abbrev main_c_18 : Ref sig .tc := ⟨.hbm, 70, rfl⟩
abbrev main_v40 : Ref sig .tc := ⟨.hbm, 71, rfl⟩
abbrev main_c_19 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_20 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_21 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_22 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_23 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_values : Ref sig .tc := ⟨.hbm, 99, rfl⟩
abbrev main_indices : Ref sig .tc := ⟨.hbm, 100, rfl⟩
abbrev main_v63 : Ref sig .tc := ⟨.hbm, 101, rfl⟩
abbrev main_v64 : Ref sig .tc := ⟨.hbm, 102, rfl⟩
abbrev main_c_24 : Ref sig .tc := ⟨.hbm, 103, rfl⟩
abbrev main_v65 : Ref sig .tc := ⟨.hbm, 104, rfl⟩
abbrev main_v66 : Ref sig .tc := ⟨.hbm, 105, rfl⟩
abbrev main_c_25 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_26 : Ref sig .tc := ⟨.hbm, 115, rfl⟩
abbrev main_v75 : Ref sig .tc := ⟨.hbm, 116, rfl⟩
abbrev main_v76 : Ref sig .tc := ⟨.hbm, 117, rfl⟩
abbrev main_cst_27 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_28 : Ref sig .tc := ⟨.hbm, 125, rfl⟩
abbrev main_v83 : Ref sig .tc := ⟨.hbm, 126, rfl⟩
abbrev main_v84 : Ref sig .tc := ⟨.hbm, 127, rfl⟩
abbrev main_cst_29 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_30 : Ref sig .tc := ⟨.hbm, 132, rfl⟩
abbrev main_cst_31 : Ref sig .tc := ⟨.hbm, 133, rfl⟩
abbrev main_v88 : Ref sig .tc := ⟨.hbm, 134, rfl⟩
abbrev main_v89 : Ref sig .tc := ⟨.hbm, 135, rfl⟩
abbrev main_cst_32 : Ref sig .tc := ⟨.hbm, 136, rfl⟩
abbrev main_v90 : Ref sig .tc := ⟨.hbm, 137, rfl⟩
abbrev main_v91 : Ref sig .tc := ⟨.hbm, 138, rfl⟩
abbrev main_cst_33 : Ref sig .tc := ⟨.hbm, 139, rfl⟩
abbrev main_v92 : Ref sig .tc := ⟨.hbm, 140, rfl⟩
abbrev main_v93 : Ref sig .tc := ⟨.hbm, 141, rfl⟩
abbrev main_cst_34 : Ref sig .tc := ⟨.hbm, 142, rfl⟩
abbrev main_v94 : Ref sig .tc := ⟨.hbm, 143, rfl⟩
abbrev main_v95 : Ref sig .tc := ⟨.hbm, 144, rfl⟩
abbrev main_cst_35 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_36 : Ref sig .tc := ⟨.hbm, 159, rfl⟩
abbrev main_v109 : Ref sig .tc := ⟨.hbm, 160, rfl⟩
abbrev main_v110 : Ref sig .tc := ⟨.hbm, 161, rfl⟩
abbrev main_cst_37 : Ref sig .tc := ⟨.hbm, 162, rfl⟩
abbrev main_v111 : Ref sig .tc := ⟨.hbm, 163, rfl⟩
abbrev main_v112 : Ref sig .tc := ⟨.hbm, 164, rfl⟩
abbrev main_cst_38 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_39 : Ref sig .tc := ⟨.hbm, 169, rfl⟩
abbrev main_v116 : Ref sig .tc := ⟨.hbm, 170, rfl⟩
abbrev main_v117 : Ref sig .tc := ⟨.hbm, 171, rfl⟩
abbrev main_cst_40 : Ref sig .tc := ⟨.hbm, 172, rfl⟩
abbrev main_v118 : Ref sig .tc := ⟨.hbm, 173, rfl⟩
abbrev main_v119 : Ref sig .tc := ⟨.hbm, 174, rfl⟩
abbrev main_cst_41 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_42 : Ref sig .tc := ⟨.hbm, 181, rfl⟩
abbrev main_v125 : Ref sig .tc := ⟨.hbm, 182, rfl⟩
abbrev main_v126 : Ref sig .tc := ⟨.hbm, 183, rfl⟩
abbrev main_cst_43 : Ref sig .tc := ⟨.hbm, 184, rfl⟩
abbrev main_v127 : Ref sig .tc := ⟨.hbm, 185, rfl⟩
abbrev main_v128 : Ref sig .tc := ⟨.hbm, 186, rfl⟩
abbrev main_cst_44 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_45 : Ref sig .tc := ⟨.hbm, 193, rfl⟩
abbrev main_v134 : Ref sig .tc := ⟨.hbm, 194, rfl⟩
abbrev main_v135 : Ref sig .tc := ⟨.hbm, 195, rfl⟩
abbrev main_cst_46 : Ref sig .tc := ⟨.hbm, 196, rfl⟩
abbrev main_cst_47 : Ref sig .tc := ⟨.hbm, 197, rfl⟩
abbrev main_v136 : Ref sig .tc := ⟨.hbm, 198, rfl⟩
abbrev main_v137 : Ref sig .tc := ⟨.hbm, 199, rfl⟩
abbrev main_cst_48 : Ref sig .tc := ⟨.hbm, 200, rfl⟩
abbrev main_v138 : Ref sig .tc := ⟨.hbm, 201, rfl⟩
abbrev main_v139 : Ref sig .tc := ⟨.hbm, 202, rfl⟩
abbrev main_cst_49 : Ref sig .tc := ⟨.hbm, 203, rfl⟩
abbrev main_v140 : Ref sig .tc := ⟨.hbm, 204, rfl⟩
abbrev main_v141 : Ref sig .tc := ⟨.hbm, 205, rfl⟩
abbrev main_cst_50 : Ref sig .tc := ⟨.hbm, 206, rfl⟩
abbrev main_v142 : Ref sig .tc := ⟨.hbm, 207, rfl⟩
abbrev main_v143 : Ref sig .tc := ⟨.hbm, 208, rfl⟩
abbrev main_cst_51 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_cst_52 : Ref sig .tc := ⟨.hbm, 223, rfl⟩
abbrev main_v157 : Ref sig .tc := ⟨.hbm, 224, rfl⟩
abbrev main_v158 : Ref sig .tc := ⟨.hbm, 225, rfl⟩
abbrev main_cst_53 : Ref sig .tc := ⟨.hbm, 226, rfl⟩
abbrev main_v159 : Ref sig .tc := ⟨.hbm, 227, rfl⟩
abbrev main_v160 : Ref sig .tc := ⟨.hbm, 228, rfl⟩
abbrev main_cst_54 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_cst_55 : Ref sig .tc := ⟨.hbm, 233, rfl⟩
abbrev main_v164 : Ref sig .tc := ⟨.hbm, 234, rfl⟩
abbrev main_v165 : Ref sig .tc := ⟨.hbm, 235, rfl⟩
abbrev main_cst_56 : Ref sig .tc := ⟨.hbm, 236, rfl⟩
abbrev main_v166 : Ref sig .tc := ⟨.hbm, 237, rfl⟩
abbrev main_v167 : Ref sig .tc := ⟨.hbm, 238, rfl⟩
abbrev main_cst_57 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_cst_58 : Ref sig .tc := ⟨.hbm, 245, rfl⟩
abbrev main_v173 : Ref sig .tc := ⟨.hbm, 246, rfl⟩
abbrev main_v174 : Ref sig .tc := ⟨.hbm, 247, rfl⟩
abbrev main_cst_59 : Ref sig .tc := ⟨.hbm, 248, rfl⟩
abbrev main_v175 : Ref sig .tc := ⟨.hbm, 249, rfl⟩
abbrev main_v176 : Ref sig .tc := ⟨.hbm, 250, rfl⟩
abbrev main_cst_60 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_cst_61 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩

abbrev nD : Nat := 1
abbrev τ : Topo := Topo.v7x

variable {F : FTy → Type} [FloatOps F]
-- ==== Proof.Body0.lean ====
/- The first call's body (the nearest-row search), one triple per case of its two conditionals, with what every buffer ends at named:
   the first point fills the two carried scratch buffers, a later one folds one more block of rows into the running minimum, the last
   one also writes the two results. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Which point takes which branch -/

/-- The first conditional's test. -/
abbrev isFirst0 (i : grid0.Coords) : Prop := (Scalar.cmpi .ne (Scalar.extui (Scalar.cmpi .eq (BitVec.ofNat 32 (i 0).val) 0#32)) 0#32) = 1#1

/-- The grid coordinate is the point's number. -/
theorem coord0 (t : Fin cfg0.N) : (grid0.coords t 0).val = t.val / 1 % 32 := Pipeline.Grid.coords_val (G := grid0) t 0 (by decide) rfl

theorem isFirst0_iff (t : Fin cfg0.N) : isFirst0 (grid0.coords t) ↔ t.val = 0 := by
  have ht : t.val < 32 := Nat.lt_of_lt_of_eq t.isLt N_0
  have h : isFirst0 (grid0.coords t) ↔ t.val % 32 = 0 := by
    simp only [isFirst0, coord0]; word_cmp
  rw [h]; omega

theorem isLast0_iff (t : Fin cfg0.N) : k0_cond2 (grid0.coords t) = 1#1 ↔ t.val = 31 := by
  have ht : t.val < 32 := Nat.lt_of_lt_of_eq t.isLt N_0
  have h : k0_cond2 (grid0.coords t) = 1#1 ↔ t.val % 32 = 31 := by
    simp only [k0_cond2, coord0]; word_cmp
  rw [h]; omega

/-! ## The triples -/

section

variable (c : Dev nD) (i : grid0.Coords) (arg1 : Memref sig .tc .vmem S3136x1152 .f32) (harg1 : arg1.IsWhole) (arg2 : Memref sig .tc .vmem S512x1152 .f32) (harg2 : arg2.IsWhole)
  (arg3 : Memref sig .tc .vmem S3136x1 .f32) (harg3 : arg3.IsWhole) (arg4 : Memref sig .tc .vmem S1x1152 .f32) (harg4 : arg4.IsWhole)
  (arg5 : Memref sig .tc .vmem S3136x1 .f32) (harg5 : arg5.IsWhole) (arg6 : Memref sig .tc .vmem S3136x512 .f32) (harg6 : arg6.IsWhole)
  (x : Vec F S3136x1152 .f32) (b : Vec F S512x1152 .f32)

include harg1 harg2 harg3 harg4 harg5 harg6

/-- The first point: both scratch buffers filled. -/
theorem first0 (h1 : isFirst0 i) (h2 : ¬ k0_cond2 i = 1#1) (y3 : Vec F S3136x1 .f32) (y4 : Vec F S1x1152 .f32) (E : Set ℕ) (K : PUnit → sProp 𝕄) :
    iprop(owns (c : Thread nD τ) arg1 fullShare x ∗ owns (c : Thread nD τ) arg2 fullShare b ∗ owns (c : Thread nD τ) arg3 fullShare y3 ∗ owns (c : Thread nD τ) arg4 fullShare y4
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b ∗ owns (c : Thread nD τ) arg3 fullShare y3 ∗ owns (c : Thread nD τ) arg4 fullShare y4
            ∗ owns (c : Thread nD τ) arg5 fullShare (k0_pay1 x) ∗ owns (c : Thread nD τ) arg6 fullShare (k0_pay3 x b (k0_pay1 x) k0_pay2)) -∗ K ⟨⟩))
      ⊢ wp frame (wpE (defs₀ (F := F)) Variants.none c none) E (cc0__k1_body i arg1 harg1 arg2 harg2 arg3 harg3 arg4 harg4 arg5 harg5 arg6 harg6) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    unfold first0.sl.H4_1
    rw [View.read_writes_full, View.readAt_full, harg1.read_unread]
  iexists _; isplitr
  swap; · iexact H5
  ipureintro
  unfold first0.sl.v9 first0.sl.v16 first0.sl.H4_1 first0.sl.H5_1
  rw [View.read_writes_full, View.readCov_full, View.readCov_full, View.readAt_full, View.readAt_full, harg1.read_unread, harg2.read_unread]

/-- A middle point: the running minimum takes one more block. -/
theorem middle0 (h1 : ¬ isFirst0 i) (h2 : ¬ k0_cond2 i = 1#1) (y3 : Vec F S3136x1 .f32) (y4 : Vec F S1x1152 .f32) (q : Vec F S3136x1 .f32) (a : Vec F S3136x512 .f32)
    (E : Set ℕ) (K : PUnit → sProp 𝕄) :
    iprop(owns (c : Thread nD τ) arg1 fullShare x ∗ owns (c : Thread nD τ) arg2 fullShare b ∗ owns (c : Thread nD τ) arg3 fullShare y3 ∗ owns (c : Thread nD τ) arg4 fullShare y4
        ∗ owns (c : Thread nD τ) arg5 fullShare q ∗ owns (c : Thread nD τ) arg6 fullShare a
        ∗ (iprop(owns (c : Thread nD τ) arg1 fullShare x ∗ owns (c : Thread nD τ) arg2 fullShare b ∗ owns (c : Thread nD τ) arg3 fullShare y3 ∗ owns (c : Thread nD τ) arg4 fullShare y4
            ∗ owns (c : Thread nD τ) arg5 fullShare q ∗ owns (c : Thread nD τ) arg6 fullShare (k0_pay3 x b q a)) -∗ K ⟨⟩))
      ⊢ wp frame (wpE (defs₀ (F := F)) Variants.none c none) E (cc0__k1_body i arg1 harg1 arg2 harg2 arg3 harg3 arg4 harg4 arg5 harg5 arg6 harg6) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [View.read_writes_full, View.readAt_full, View.readAt_full, View.readAt_full, View.readAt_full, harg1.read_unread, harg2.read_unread, harg5.read_unread, harg6.read_unread]

/-- The last point: one more block, then the two results. -/
theorem last0 (h1 : ¬ isFirst0 i) (h2 : k0_cond2 i = 1#1) (q : Vec F S3136x1 .f32) (a : Vec F S3136x512 .f32) (E : Set ℕ) (K : PUnit → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d)
        ∗ owns (c : Thread nD τ) arg5 fullShare q ∗ owns (c : Thread nD τ) arg6 fullShare a
        ∗ (iprop(owns (c : Thread nD τ) arg1 fullShare x ∗ owns (c : Thread nD τ) arg2 fullShare b ∗ owns (c : Thread nD τ) arg3 fullShare (k0_pay4 (k0_pay3 x b q a))
            ∗ owns (c : Thread nD τ) arg4 fullShare (k0_pay5 x (k0_pay3 x b q a))
            ∗ owns (c : Thread nD τ) arg5 fullShare q ∗ owns (c : Thread nD τ) arg6 fullShare (k0_pay3 x b q a)) -∗ K ⟨⟩))
      ⊢ wp frame (wpE (defs₀ (F := F)) Variants.none c none) E (cc0__k1_body i arg1 harg1 arg2 harg2 arg3 harg3 arg4 harg4 arg5 harg5 arg6 harg6) K := by
  simp only [cc0__k1_body_eq_skeleton]; unfold cc0__k1_body_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  obtain rfl := harg1.eq_unread hf0; obtain rfl := harg2.eq_unread hf1
  obtain rfl := harg5.eq_unread hf4; obtain rfl := harg6.eq_unread hf5
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    unfold last0.sl.v25 last0.sl.H5_1
    rw [View.read_writes_full, View.readCov_full, View.readAt_full, View.readAt_full, View.readAt_full, View.readAt_full, harg1.read_unread, harg2.read_unread, harg5.read_unread, harg6.read_unread]
  isplitl [H3]
  · iexists _; isplitr
    swap; · iexact H3
    ipureintro
    unfold last0.sl.v25 last0.sl.H5_1
    rw [View.read_writes_full, View.readCov_full, View.readAt_full, View.readAt_full, View.readAt_full, View.readAt_full, harg1.read_unread, harg2.read_unread, harg5.read_unread, harg6.read_unread]
  isplitl [H4]
  · iexists _; isplitr; · ipureintro; exact harg5.read_unread _
    iexact H4
  iexists _; isplitr
  swap; · iexact H5
  ipureintro
  unfold last0.sl.H5_1
  rw [View.read_writes_full, View.readAt_full, View.readAt_full, View.readAt_full, View.readAt_full, harg1.read_unread, harg2.read_unread, harg5.read_unread, harg6.read_unread]

end

end Cert.KernelIdeal.Hand

end
-- ==== Proof.Region0.lean ====
/- The first call as a region of the run: what the carried scratch holds after every point, the proof data, the body obligation. -/
module

public import proofs.«01_k».proof.Proof.Body0
public import Idealize.ShloMosaic.Lib.Pipeline.RegionArraysS
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation scopedRestBut)

variable {F : FTy → Type} [FloatOps F]

local notation "𝕄" => MT nD τ sig Unit (Elt F) ℕ (UR sig nD τ) ℕ

/-- Rows `512 n … 512 n + 511` of the 16384 library rows (`n` taken modulo 32). -/
def libBlock (B : Vec F S16384x1152 .f32) (n : ℕ) : Vec F S512x1152 .f32 :=
  fun i => B (ix2 (n0 := 16384) (n1 := 1152) ⟨n % 32 * 512 + (i 0).val, by have h : (i 0).val < 512 := (i 0).isLt; omega⟩ (i 1))

/-- The running minimum after `n` blocks of library rows. -/
def minAfter (X : Vec F S3136x1152 .f32) (B : Vec F S16384x1152 .f32) : ℕ → Vec F S3136x512 .f32
  | 0 => k0_pay2
  | n + 1 => k0_pay3 X (libBlock B n) (k0_pay1 X) (minAfter X B n)

section

variable (W : Dev nD → Valuation τ sig (Elt F))

/-- Window `w`'s block at point `t`, read off its array at the region's entry. -/
def block0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The patches, as the region finds them. -/
abbrev patch0 (c : Dev nD) : Vec F S3136x1152 .f32 := W c (Proc.devRef .tc main_arg0)
/-- The library, as the region finds it. -/
abbrev lib0 (c : Dev nD) : Vec F S16384x1152 .f32 := W c (Proc.devRef .tc main_arg1)

theorem index0_0 : ∀ t : Fin cfg0.N, win0_0.index t = ![0, 0] := (by decide +kernel : ∀ t : Fin grid0.N, _)
theorem index0_1 : ∀ t : Fin cfg0.N, win0_1.index t = ![t.val % 32, 0] := (by decide +kernel : ∀ t : Fin grid0.N, _)

theorem block0_0 (c : Dev nD) (t : Fin cfg0.N) : block0 W c 0 t = patch0 W c := by
  funext y
  blk_simp [block0, index0_0]
  congr 1
  blk_ext [index0_0]

theorem block0_1 (c : Dev nD) (t : Fin cfg0.N) : block0 W c 1 t = libBlock (lib0 W c) t.val := by
  funext y
  unfold libBlock
  blk_simp [block0, index0_1]
  congr 1
  blk_ext [index0_1]

/-- What the body carries from point to point: before the first point both scratch buffers at anything, after `n` points the squared norms of
    the patches and the running minimum after `n` blocks; the other scoped buffers and the generator register ride along. -/
def carried0 (c : Dev nD) : ℕ → sProp 𝕄
  | 0 => iprop((∃ d, owns (c : Thread nD τ) (Memref.whole cc0_scratch0 : Memref sig .tc .vmem S3136x1 .f32) fullShare d)
        ∗ (∃ d, owns (c : Thread nD τ) (Memref.whole cc0_scratch1 : Memref sig .tc .vmem S3136x512 .f32) fullShare d)
        ∗ scopedRestBut spec0 c [cc0_scratch0, cc0_scratch1])
  | n + 1 => iprop(owns (c : Thread nD τ) (Memref.whole cc0_scratch0 : Memref sig .tc .vmem S3136x1 .f32) fullShare (k0_pay1 (patch0 W c))
        ∗ owns (c : Thread nD τ) (Memref.whole cc0_scratch1 : Memref sig .tc .vmem S3136x512 .f32) fullShare (minAfter (patch0 W c) (lib0 W c) (n + 1))
        ∗ scopedRestBut spec0 c [cc0_scratch0, cc0_scratch1])

/-- The least squared distance of every patch, as the call leaves it. -/
def minOut (X : Vec F S3136x1152 .f32) (B : Vec F S16384x1152 .f32) : Vec F S3136x1 .f32 := k0_pay4 (minAfter X B 32)
/-- The patch that lies farthest from the library, as the call leaves it. -/
def farOut (X : Vec F S3136x1152 .f32) (B : Vec F S16384x1152 .f32) : Vec F S1x1152 .f32 := k0_pay5 X (minAfter X B 32)

/-- The region's proof data: the arrays as found; every input's buffer at its block, the two results at their values. -/
def dat0 (c : Dev nD) : Dat τ (Elt F) Unit ℕ (UR sig nD τ) ℕ cfg0 c where
  A w := W c (Proc.devRef .tc (Pipeline.arrRef spec0 w))
  after w t := match w with
    | ⟨0, _⟩ => block0 W c 0 t
    | ⟨1, _⟩ => block0 W c 1 t
    | ⟨2, _⟩ => minOut (patch0 W c) (lib0 W c)
    | ⟨3, _⟩ => farOut (patch0 W c) (lib0 W c)
  Φ t := carried0 W c t.val
  q _ := fullShare
  owed _ := 0

theorem after0_2 (c : Dev nD) (t : Fin cfg0.N) : (dat0 W c).after 2 t = minOut (patch0 W c) (lib0 W c) := by dsimp only [dat0]
theorem after0_3 (c : Dev nD) (t : Fin cfg0.N) : (dat0 W c).after 3 t = farOut (patch0 W c) (lib0 W c) := by dsimp only [dat0]
theorem after0_0 (c : Dev nD) (t : Fin cfg0.N) : (dat0 W c).after 0 t = block0 W c 0 t := by dsimp only [dat0]
theorem after0_1 (c : Dev nD) (t : Fin cfg0.N) : (dat0 W c).after 1 t = block0 W c 1 t := by dsimp only [dat0]

theorem before0_0 (c : Dev nD) (t : Fin cfg0.N) (d) : (dat0 W c).before 0 t d = block0 W c 0 t :=
  ((dat0 W c).before_in_eq_fetched 0 rfl (fun _ => rfl) (fun _ _ _ => rfl) (fun t => by rw [after0_0]; unfold Dat.blockOf block0; dsimp only [dat0]) t d).trans
    (by unfold Dat.fetched Dat.blockOf block0; dsimp only [dat0]; try rfl)
theorem before0_1 (c : Dev nD) (t : Fin cfg0.N) (d) : (dat0 W c).before 1 t d = block0 W c 1 t :=
  ((dat0 W c).before_in_eq_fetched 1 rfl (fun _ => rfl) (fun _ _ _ => rfl) (fun t => by rw [after0_1]; unfold Dat.blockOf block0; dsimp only [dat0]) t d).trans
    (by unfold Dat.fetched Dat.blockOf block0; dsimp only [dat0]; try rfl)

/-- The inputs are never idle. -/
theorem leaves0_0 (c : Dev nD) (t : Fin cfg0.N) : (dat0 W c).leavesExact 0 t = owns (c : Thread nD τ) (st0_0 t) fullShare (block0 W c 0 t) := by
  unfold Dat.leavesExact; rw [show cfg0.idle 0 (cfg0.grid.coords t) = false from rfl, after0_0]
theorem leaves0_1 (c : Dev nD) (t : Fin cfg0.N) : (dat0 W c).leavesExact 1 t = owns (c : Thread nD τ) (st0_1 t) fullShare (block0 W c 1 t) := by
  unfold Dat.leavesExact; rw [show cfg0.idle 1 (cfg0.grid.coords t) = false from rfl, after0_1]

/-- At every point but the last the results' buffers are handed back as found. -/
theorem leaves0_idle (c : Dev nD) (t : Fin cfg0.N) (ht : t.val ≠ 31) (w : Fin cfg0.W) (hw : w = 2 ∨ w = 3) :
    (dat0 W c).leavesExact w t = iprop(∃ d, owns (c : Thread nD τ) ((cfg0.win w).stage (cfg0.slots t w)) fullShare ((dat0 W c).before w t d)) := by
  have h : (k0_cond2 (grid0.coords t) == 1#1) = false := beq_eq_false_iff_ne.mpr fun e => ht ((isLast0_iff t).mp e)
  have hN : t.val < 32 := Nat.lt_of_lt_of_eq t.isLt N_0
  rcases hw with rfl | rfl
  · exact Dat.leavesExact_idle _ _ _ (by show (!(k0_cond2 (grid0.coords t) == 1#1)) = true; rw [h]; rfl)
      (Bool.eq_false_iff.mpr fun e => ht (by have := (flush0_2 t).mp e; omega))
  · exact Dat.leavesExact_idle _ _ _ (by show (!(k0_cond2 (grid0.coords t) == 1#1)) = true; rw [h]; rfl)
      (Bool.eq_false_iff.mpr fun e => ht (by have := (flush0_3 t).mp e; omega))

/-- At the last point they hold their values. -/
theorem leaves0_2 (c : Dev nD) (t : Fin cfg0.N) (ht : t.val = 31) :
    (dat0 W c).leavesExact 2 t = owns (c : Thread nD τ) (st0_2 t) fullShare (minOut (patch0 W c) (lib0 W c)) := by
  unfold Dat.leavesExact
  rw [show cfg0.idle 2 (cfg0.grid.coords t) = false from by
    show (!(k0_cond2 (grid0.coords t) == 1#1)) = false; rw [(isLast0_iff t).mpr ht]; rfl, after0_2]
theorem leaves0_3 (c : Dev nD) (t : Fin cfg0.N) (ht : t.val = 31) :
    (dat0 W c).leavesExact 3 t = owns (c : Thread nD τ) (st0_3 t) fullShare (farOut (patch0 W c) (lib0 W c)) := by
  unfold Dat.leavesExact
  rw [show cfg0.idle 3 (cfg0.grid.coords t) = false from by
    show (!(k0_cond2 (grid0.coords t) == 1#1)) = false; rw [(isLast0_iff t).mpr ht]; rfl, after0_3]

theorem carried0_at (c : Dev nD) (t : Fin cfg0.N) : (dat0 W c).Φ t.castSucc = carried0 W c t.val := by
  dsimp only [dat0]; exact Dat.Φ_castSucc (fun n _ => carried0 W c n) t

/-- The body's precondition at a point, window by window. -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d)))

/-- Its postcondition. -/
def post0 (c : Dev nD) (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t ∗ (dat0 W c).leavesExact 3 t)

/-- The body at any point. -/
theorem body0 (c : Dev nD) (t : Fin cfg0.N) :
    pre0 W c t ⊢ wp frame (wpE (defs₀ (F := F)) Variants.none c none) Set.univ (bodyAt0 t) (fun _ => post0 W c t) := by
  unfold pre0 post0 bodyAt0
  simp only [before0_0, before0_1]
  rw [show (dat0 W c).owesAt () t.succ = (dat0 W c).owesAt () t.castSucc from rfl, show (dat0 W c).Φ t.succ = carried0 W c (t.val + 1) from rfl, carried0_at,
    leaves0_0, leaves0_1, block0_0, block0_1]
  have hN : t.val < 32 := Nat.lt_of_lt_of_eq t.isLt N_0
  by_cases hl : t.val = 31
  · rw [leaves0_2 W c t hl, leaves0_3 W c t hl]
    obtain ⟨n, hn⟩ : ∃ n, t.val = n + 1 := ⟨30, hl⟩
    have hn30 : n = 30 := by omega
    rw [hn]
    subst hn30
    unfold carried0
    iintro ⟨⟨HS0, HS1, Hr⟩, Ho, ⟨%d0, H0⟩, ⟨%d1, H1⟩, ⟨%d2, H2⟩, ⟨%d3, H3⟩⟩
    iapply (last0 c (grid0.coords t) _ _ _ _ _ _ _ _ _ _ _ _ (patch0 W c) (libBlock (lib0 W c) 31) (fun h => by have := (isFirst0_iff t).mp h; omega) ((isLast0_iff t).mpr hl) (k0_pay1 (patch0 W c)) (minAfter (patch0 W c) (lib0 W c) 31) Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    iexact H3
  · rw [leaves0_idle W c t hl 2 (.inl rfl), leaves0_idle W c t hl 3 (.inr rfl)]
    by_cases hz : t.val = 0
    · rw [hz]
      unfold carried0
      iintro ⟨⟨HS0, HS1, Hr⟩, Ho, ⟨%d0, H0⟩, ⟨%d1, H1⟩, ⟨%d2, H2⟩, ⟨%d3, H3⟩⟩
      iapply (first0 c (grid0.coords t) _ _ _ _ _ _ _ _ _ _ _ _ (patch0 W c) (libBlock (lib0 W c) 0) ((isFirst0_iff t).mpr hz) (fun h => hl ((isLast0_iff t).mp h)) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexists d2; iexact H2
      iexists d3; iexact H3
    · obtain ⟨n, hn⟩ : ∃ n, t.val = n + 1 := ⟨t.val - 1, by omega⟩
      rw [hn]
      unfold carried0
      iintro ⟨⟨HS0, HS1, Hr⟩, Ho, ⟨%d0, H0⟩, ⟨%d1, H1⟩, ⟨%d2, H2⟩, ⟨%d3, H3⟩⟩
      iapply (middle0 c (grid0.coords t) _ _ _ _ _ _ _ _ _ _ _ _ (patch0 W c) (libBlock (lib0 W c) (n + 1)) (fun h => hz ((isFirst0_iff t).mp h)) (fun h => hl ((isLast0_iff t).mp h)) _ _ (k0_pay1 (patch0 W c)) (minAfter (patch0 W c) (lib0 W c) (n + 1)) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexists d2; iexact H2
      iexists d3; iexact H3

theorem row0 (t : Fin cfg0.N) : defs₀ (F := F) .tc cfg0.body (cfg0.bodyArgs t (cfg0.slots t)) = bodyAt0 t := by
  unfold defs₀; rw [Defs.onTc_tc]

/-- The pipeline's obligation on the body. -/
theorem obligation0 (c : Dev nD) : BodyObligation (dat0 (F := F) W c) (defs₀ (F := F)) Variants.none () Set.univ := fun t => by
  rw [bigSep_W0, bigSep_W0, row0]
  exact triple_restated (body0 W c t) rfl .rfl fun _ => .rfl

/-- The scoped buffers the call stages nothing through: its two scratch buffers and the rest. -/
theorem scoped0 (c : Dev nD) : (Pipeline.scopedRest spec0 c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ scopedRestBut spec0 c [cc0_scratch0, cc0_scratch1]) :=
  Pipeline.scopedRest_split_of_list spec0 c [cc0_scratch0, cc0_scratch1] (by decide) (by decide)

/-- What the region is entered with is the invariant before the first point. -/
theorem enter0 (c : Dev nD) : iprop(Pipeline.scopedRest spec0 c ∗ (BI.emp : sProp 𝕄)) ⊢ (dat0 W c).Φ 0 := by
  rw [show (dat0 W c).Φ 0 = carried0 W c 0 from rfl, scoped0]
  unfold carried0
  simp only [owns_whole]
  iintro ⟨⟨⟨H0, H1⟩, Hr⟩, -⟩
  isplitl [H0]; · iexact H0
  isplitl [H1]; · iexact H1
  iexact Hr

/-- What the invariant after the last point gives back. -/
theorem leave0 (c : Dev nD) : (dat0 W c).Φ (Fin.last cfg0.N) ⊢ iprop(Pipeline.scopedRest spec0 c ∗ (BI.emp : sProp 𝕄)) := by
  rw [show (dat0 W c).Φ (Fin.last cfg0.N) = carried0 W c 32 from congrArg (carried0 W c) ((Fin.val_last _).trans N_0), scoped0]
  unfold carried0
  simp only [owns_whole]
  iintro ⟨H0, H1, Hr⟩
  isplitl [H0 H1 Hr]
  · isplitl [H0 H1]
    · isplitl [H0]; · iexists _; iexact H0
      iexists _; iexact H1
    iexact Hr
  iempintro

end

end Cert.KernelIdeal.Hand

end
-- ==== Proof.Body1.lean ====
/- The second call's body (one row of squared distances, block by block), one triple per case: every point puts its block of the row
   into the scratch row, the last one also writes the row out and the index of its first least entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid coordinate is the point's number. -/
theorem coord1 (t : Fin cfg1.N) : (grid1.coords t 0).val = t.val / 1 % 32 := Pipeline.Grid.coords_val (G := grid1) t 0 (by decide) rfl

theorem isLast1_iff (t : Fin cfg1.N) : k1_cond1 (grid1.coords t) = 1#1 ↔ t.val = 31 := by
  have ht : t.val < 32 := Nat.lt_of_lt_of_eq t.isLt N_1
  have h : k1_cond1 (grid1.coords t) = 1#1 ↔ t.val % 32 = 31 := by
    simp only [k1_cond1, coord1]; word_cmp
  rw [h]; omega

section

variable (c : Dev nD) (i : grid1.Coords) (arg1 : Memref sig .tc .vmem S1x1152 .f32) (harg1 : arg1.IsWhole) (arg2 : Memref sig .tc .vmem S512x1152 .f32) (harg2 : arg2.IsWhole)
  (arg3 : Memref sig .tc .vmem S1x16384 .f32) (harg3 : arg3.IsWhole) (arg4 : Memref sig .tc .vmem S1x1 .i32) (harg4 : arg4.IsWhole)
  (arg5 : Memref sig .tc .vmem S1x16384 .f32) (harg5 : arg5.IsWhole)
  (x : Vec F S1x1152 .f32) (b : Vec F S512x1152 .f32) (s : Vec F S1x16384 .f32)

/-- The scratch row with the point's block put in. -/
abbrev rowPut1 : Vec F S1x16384 .f32 := VecWindow.put s (k1_off1 i) S1x512.size (k1_pay1 x b)

include harg1 harg2 harg3 harg4 harg5

/-- A point that is not the last. -/
theorem middle1 (h : ¬ k1_cond1 i = 1#1) (y3 : Vec F S1x16384 .f32) (y4 : Vec F S1x1 .i32) (E : Set ℕ) (K : PUnit → sProp 𝕄) :
    iprop(owns (c : Thread nD τ) arg1 fullShare x ∗ owns (c : Thread nD τ) arg2 fullShare b ∗ owns (c : Thread nD τ) arg3 fullShare y3 ∗ owns (c : Thread nD τ) arg4 fullShare y4
        ∗ owns (c : Thread nD τ) arg5 fullShare s
        ∗ (iprop(owns (c : Thread nD τ) arg1 fullShare x ∗ owns (c : Thread nD τ) arg2 fullShare b ∗ owns (c : Thread nD τ) arg3 fullShare y3 ∗ owns (c : Thread nD τ) arg4 fullShare y4
            ∗ owns (c : Thread nD τ) arg5 fullShare (rowPut1 i x b s)) -∗ K ⟨⟩))
      ⊢ wp frame (wpE (defs₀ (F := F)) Variants.none c none) E (cc1__k2a_body i arg1 harg1 arg2 harg2 arg3 harg3 arg4 harg4 arg5 harg5) K := by
  simp only [cc1__k2a_body_eq_skeleton]; unfold cc1__k2a_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3
  obtain rfl := harg5.eq_unread hf4
  sl_exec (disch := sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [View.read_writes_cons_put _ _ _ _ _ rfl, View.writes_nil, View.readAt_full, View.readAt_full, harg1.read_unread, harg2.read_unread, harg5.read_unread]

/-- The last point. -/
theorem last1 (h : k1_cond1 i = 1#1) (E : Set ℕ) (K : PUnit → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d)
        ∗ owns (c : Thread nD τ) arg5 fullShare s
        ∗ (iprop(owns (c : Thread nD τ) arg1 fullShare x ∗ owns (c : Thread nD τ) arg2 fullShare b ∗ owns (c : Thread nD τ) arg3 fullShare (rowPut1 i x b s)
            ∗ owns (c : Thread nD τ) arg4 fullShare (k1_pay2 (rowPut1 i x b s))
            ∗ owns (c : Thread nD τ) arg5 fullShare (rowPut1 i x b s)) -∗ K ⟨⟩))
      ⊢ wp frame (wpE (defs₀ (F := F)) Variants.none c none) E (cc1__k2a_body i arg1 harg1 arg2 harg2 arg3 harg3 arg4 harg4 arg5 harg5) K := by
  simp only [cc1__k2a_body_eq_skeleton]; unfold cc1__k2a_body_skel
  unfold owns
  iintro ⟨⟨%f0, %hf0, H0⟩, ⟨%f1, %hf1, H1⟩, ⟨%d2, %f2, -, H2⟩, ⟨%d3, %f3, -, H3⟩, ⟨%f4, %hf4, H4⟩, Hk⟩
  obtain rfl := harg1.eq_unread hf0; obtain rfl := harg2.eq_unread hf1
  obtain rfl := harg5.eq_unread hf4
  sl_exec (disch := sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_full, View.readAt_full]; unfold last1.sl.H4_1
    rw [View.read_writes_cons_put _ _ _ _ _ rfl, View.writes_nil, View.readAt_full, View.readAt_full, harg1.read_unread, harg2.read_unread, harg5.read_unread]
  isplitl [H3]
  · iexists _; isplitr
    swap; · iexact H3
    ipureintro
    rw [View.read_writes_full, View.readAt_full]; unfold last1.sl.H4_1
    rw [View.read_writes_cons_put _ _ _ _ _ rfl, View.writes_nil, View.readAt_full, View.readAt_full, harg1.read_unread, harg2.read_unread, harg5.read_unread]
  iexists _; isplitr
  swap; · iexact H4
  ipureintro
  unfold last1.sl.H4_1
  rw [View.read_writes_cons_put _ _ _ _ _ rfl, View.writes_nil, View.readAt_full, View.readAt_full, harg1.read_unread, harg2.read_unread, harg5.read_unread]

end

end Cert.KernelIdeal.Hand

end
-- ==== Proof.Body2.lean ====
/- The third call's body (the distances to the nearest row, the score, the map), one triple per case: every point puts its block of the row
   into the scratch row, the last one also writes the score and the map. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid coordinate is the point's number. -/
theorem coord2 (t : Fin cfg2.N) : (grid2.coords t 0).val = t.val / 1 % 32 := Pipeline.Grid.coords_val (G := grid2) t 0 (by decide) rfl

theorem isLast2_iff (t : Fin cfg2.N) : k2_cond1 (grid2.coords t) = 1#1 ↔ t.val = 31 := by
  have ht : t.val < 32 := Nat.lt_of_lt_of_eq t.isLt N_2
  have h : k2_cond1 (grid2.coords t) = 1#1 ↔ t.val % 32 = 31 := by
    simp only [k2_cond1, coord2]; word_cmp
  rw [h]; omega

section

variable (c : Dev nD) (i : grid2.Coords) (arg1 : Memref sig .tc .vmem S1x1152 .f32) (harg1 : arg1.IsWhole) (arg2 : Memref sig .tc .vmem S512x1152 .f32) (harg2 : arg2.IsWhole)
  (arg3 : Memref sig .tc .vmem S1x16384 .f32) (harg3 : arg3.IsWhole) (arg4 : Memref sig .tc .vmem S56x56 .f32) (harg4 : arg4.IsWhole)
  (arg5 : Memref sig .tc .vmem S224x56 .f32) (harg5 : arg5.IsWhole) (arg6 : Memref sig .tc .vmem S56x224 .f32) (harg6 : arg6.IsWhole)
  (arg7 : Memref sig .tc .vmem S1x1 .f32) (harg7 : arg7.IsWhole) (arg8 : Memref sig .tc .vmem S224x224 .f32) (harg8 : arg8.IsWhole)
  (arg9 : Memref sig .tc .vmem S1x16384 .f32) (harg9 : arg9.IsWhole)
  (x : Vec F S1x1152 .f32) (b : Vec F S512x1152 .f32) (tr : Vec F S1x16384 .f32) (mn : Vec F S56x56 .f32) (rm : Vec F S224x56 .f32) (rt : Vec F S56x224 .f32)
  (s : Vec F S1x16384 .f32)

/-- The scratch row with the point's block put in. -/
abbrev rowPut2 : Vec F S1x16384 .f32 := VecWindow.put s (k2_off1 i) S1x512.size (k2_pay1 x b)

/-- The score, from the whole row of distances `w`, the row `tr` and the minima. -/
def scoreOf (w tr : Vec F S1x16384 .f32) (mn : Vec F S56x56 .f32) : FVec F S1x1 .f32 :=
  k2_pay9 (k2_pay3 tr) (iota .tc S1x16384 32 [1] iota_S1x16384_d1_w32) (k2_pay6 w) (k2_pay7 w tr) mn

/-- The map, from the minima and the two weight matrices. -/
def mapOf (mn : Vec F S56x56 .f32) (rm : Vec F S224x56 .f32) (rt : Vec F S56x224 .f32) : FVec F S224x224 .f32 := k2_pay2 (k2_pay10 mn rm) rt

include harg1 harg2 harg3 harg4 harg5 harg6 harg7 harg8 harg9

/-- A point that is not the last. -/
theorem middle2 (h : ¬ k2_cond1 i = 1#1) (y7 : Vec F S1x1 .f32) (y8 : Vec F S224x224 .f32) (E : Set ℕ) (K : PUnit → sProp 𝕄) :
    iprop(owns (c : Thread nD τ) arg1 fullShare x ∗ owns (c : Thread nD τ) arg2 fullShare b ∗ owns (c : Thread nD τ) arg3 fullShare tr ∗ owns (c : Thread nD τ) arg4 fullShare mn
        ∗ owns (c : Thread nD τ) arg5 fullShare rm ∗ owns (c : Thread nD τ) arg6 fullShare rt ∗ owns (c : Thread nD τ) arg7 fullShare y7 ∗ owns (c : Thread nD τ) arg8 fullShare y8
        ∗ owns (c : Thread nD τ) arg9 fullShare s
        ∗ (iprop(owns (c : Thread nD τ) arg1 fullShare x ∗ owns (c : Thread nD τ) arg2 fullShare b ∗ owns (c : Thread nD τ) arg3 fullShare tr ∗ owns (c : Thread nD τ) arg4 fullShare mn
            ∗ owns (c : Thread nD τ) arg5 fullShare rm ∗ owns (c : Thread nD τ) arg6 fullShare rt ∗ owns (c : Thread nD τ) arg7 fullShare y7 ∗ owns (c : Thread nD τ) arg8 fullShare y8
            ∗ owns (c : Thread nD τ) arg9 fullShare (rowPut2 i x b s)) -∗ K ⟨⟩))
      ⊢ wp frame (wpE (defs₀ (F := F)) Variants.none c none) E (cc2__k2b_body i arg1 harg1 arg2 harg2 arg3 harg3 arg4 harg4 arg5 harg5 arg6 harg6 arg7 harg7 arg8 harg8 arg9 harg9) K := by
  simp only [cc2__k2b_body_eq_skeleton]; unfold cc2__k2b_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg9.eq_unread hf8
  sl_exec (disch := sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  rw [View.read_writes_cons_put _ _ _ _ _ rfl, View.writes_nil, View.readAt_full, View.readAt_full, harg1.read_unread, harg2.read_unread, harg9.read_unread]

/-- The last point. -/
theorem last2 (h : k2_cond1 i = 1#1) (E : Set ℕ) (K : PUnit → sProp 𝕄) :
    iprop(owns (c : Thread nD τ) arg1 fullShare x ∗ owns (c : Thread nD τ) arg2 fullShare b ∗ owns (c : Thread nD τ) arg3 fullShare tr ∗ owns (c : Thread nD τ) arg4 fullShare mn
        ∗ owns (c : Thread nD τ) arg5 fullShare rm ∗ owns (c : Thread nD τ) arg6 fullShare rt ∗ (∃ d, owns (c : Thread nD τ) arg7 fullShare d) ∗ (∃ d, owns (c : Thread nD τ) arg8 fullShare d)
        ∗ owns (c : Thread nD τ) arg9 fullShare s
        ∗ (iprop(owns (c : Thread nD τ) arg1 fullShare x ∗ owns (c : Thread nD τ) arg2 fullShare b ∗ owns (c : Thread nD τ) arg3 fullShare tr ∗ owns (c : Thread nD τ) arg4 fullShare mn
            ∗ owns (c : Thread nD τ) arg5 fullShare rm ∗ owns (c : Thread nD τ) arg6 fullShare rt
            ∗ owns (c : Thread nD τ) arg7 fullShare (scoreOf (rowPut2 i x b s) tr mn) ∗ owns (c : Thread nD τ) arg8 fullShare (mapOf mn rm rt)
            ∗ owns (c : Thread nD τ) arg9 fullShare (rowPut2 i x b s)) -∗ K ⟨⟩))
      ⊢ wp frame (wpE (defs₀ (F := F)) Variants.none c none) E (cc2__k2b_body i arg1 harg1 arg2 harg2 arg3 harg3 arg4 harg4 arg5 harg5 arg6 harg6 arg7 harg7 arg8 harg8 arg9 harg9) K := by
  simp only [cc2__k2b_body_eq_skeleton]; unfold cc2__k2b_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg9.eq_unread hf8
  sl_exec (disch := sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_full]
    unfold last2.sl.r last2.sl.v28 last2.sl.r_1 last2.sl.r_2 last2.sl.H8_1 scoreOf
    rw [View.readAt_full arg9.view, View.read_writes_cons_put _ _ _ _ _ rfl, View.writes_nil, View.readAt_full arg1.view, View.readAt_full arg2.view, View.readAt_full arg3.view, View.readAt_full arg4.view, harg1.read_unread, harg2.read_unread, harg3.read_unread,
      harg4.read_unread, harg9.read_unread]
  isplitl [H7]
  · iexists _; isplitr
    swap; · iexact H7
    ipureintro
    refine (View.read_writes_full (s := S224x224) _ _ _ _ _).trans ?_
    unfold last2.sl.r_3 last2.sl.r_4 mapOf
    rw [View.readAt_full, View.readAt_full, View.readAt_full, harg4.read_unread, harg5.read_unread, harg6.read_unread]
  iexists _; isplitr
  swap; · iexact H8
  ipureintro
  unfold last2.sl.H8_1
  rw [View.read_writes_cons_put _ _ _ _ _ rfl, View.writes_nil, View.readAt_full, View.readAt_full, harg1.read_unread, harg2.read_unread, harg9.read_unread]

end

end Cert.KernelIdeal.Hand

end
-- ==== Proof.Rows.lean ====
/- A row of 16384 squared distances filled 512 at a time in a scratch row: what it holds after each block. -/
module

public import proofs.«01_k».proof.Proof.Body1
public import proofs.«01_k».proof.Proof.Body2
public import proofs.«01_k».proof.Proof.Region0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation scopedRestBut)

variable {F : FTy → Type} [FloatOps F]

local notation "𝕄" => MT nD τ sig Unit (Elt F) ℕ (UR sig nD τ) ℕ

/-- The row of squared distances of `x` to the library rows, each entry as the block of 512 it lies in is computed. -/
def rowOf (x : Vec F S1x1152 .f32) (B : Vec F S16384x1152 .f32) : Vec F S1x16384 .f32 :=
  fun i => k1_pay1 x (libBlock B ((i 1).val / 512)) (ix2 (n0 := 1) (n1 := 512) 0 ⟨(i 1).val % 512, Nat.mod_lt _ (by decide)⟩)

/-- The scratch row `s` holds the first `n` blocks. -/
def Filled (x : Vec F S1x1152 .f32) (B : Vec F S16384x1152 .f32) (n : ℕ) (s : Vec F S1x16384 .f32) : Prop :=
  ∀ i : S1x16384.Idx, (i 1).val < 512 * n → s i = rowOf x B i

theorem filled_zero (x : Vec F S1x1152 .f32) (B : Vec F S16384x1152 .f32) (s : Vec F S1x16384 .f32) : Filled x B 0 s := fun i h => absurd h (by omega)

/-- One more block put in. -/
theorem filled_put (x : Vec F S1x1152 .f32) (B : Vec F S16384x1152 .f32) (n : ℕ) (s : Vec F S1x16384 .f32) (off : Fin 2 → ℕ) (ho : off = ![0, 512 * n]) (h : Filled x B n s) :
    Filled x B (n + 1) (VecWindow.put (s := S1x16384) s off S1x512.size (k1_pay1 x (libBlock B n))) := by
  subst ho
  intro i hi
  unfold VecWindow.put
  split_ifs with hm
  · have h1 : 512 * n ≤ (i 1).val ∧ (i 1).val < 512 * n + 512 := hm 1
    unfold rowOf
    rw [show (i 1).val / 512 = n by omega]
    congr 1
    funext a
    apply Fin.ext
    match a with
    | 0 =>
      have e0 : (i 0).val < 1 := (i 0).isLt
      show (i 0).val - 0 = 0
      omega
    | 1 =>
      show (i 1).val - 512 * n = (i 1).val % 512
      omega
  · refine h i ?_
    by_contra hc
    refine hm fun a => ?_
    match a with
    | 0 =>
      have e0 : (i 0).val < 1 := (i 0).isLt
      show 0 ≤ (i 0).val ∧ (i 0).val < 0 + 1
      omega
    | 1 =>
      show 512 * n ≤ (i 1).val ∧ (i 1).val < 512 * n + 512
      omega

theorem filled_all (x : Vec F S1x1152 .f32) (B : Vec F S16384x1152 .f32) (s : Vec F S1x16384 .f32) (h : Filled x B 32 s) : s = rowOf x B :=
  funext fun i => h i (by have e : (i 1).val < 16384 := (i 1).isLt; omega)

theorem off1_at : ∀ t : Fin cfg1.N, k1_off1 (grid1.coords t) = ![0, 512 * t.val] := (by decide +kernel : ∀ t : Fin grid1.N, _)
theorem off2_at : ∀ t : Fin cfg2.N, k2_off1 (grid2.coords t) = ![0, 512 * t.val] := (by decide +kernel : ∀ t : Fin grid2.N, _)

end Cert.KernelIdeal.Hand

end
-- ==== Proof.Region1.lean ====
/- The second call as a region of the run: the scratch row filled block by block, the proof data, the body obligation. -/
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation scopedRestBut)

variable {F : FTy → Type} [FloatOps F]

local notation "𝕄" => MT nD τ sig Unit (Elt F) ℕ (UR sig nD τ) ℕ

section

variable (W : Dev nD → Valuation τ sig (Elt F))

/-- Window `w`'s block at point `t`, read off its array at the region's entry. -/
def block1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The farthest patch, as the region finds it. -/
abbrev far1 (c : Dev nD) : Vec F S1x1152 .f32 := W c (Proc.devRef .tc main_call0_v0_1)
/-- The library, as the region finds it. -/
abbrev lib1 (c : Dev nD) : Vec F S16384x1152 .f32 := W c (Proc.devRef .tc main_arg1)

theorem index1_0 : ∀ t : Fin cfg1.N, win1_0.index t = ![0, 0] := (by decide +kernel : ∀ t : Fin grid1.N, _)
theorem index1_1 : ∀ t : Fin cfg1.N, win1_1.index t = ![t.val % 32, 0] := (by decide +kernel : ∀ t : Fin grid1.N, _)

theorem block1_0 (c : Dev nD) (t : Fin cfg1.N) : block1 W c 0 t = far1 W c := by
  funext y
  blk_simp [block1, index1_0]
  congr 1
  blk_ext [index1_0]

theorem block1_1 (c : Dev nD) (t : Fin cfg1.N) : block1 W c 1 t = libBlock (lib1 W c) t.val := by
  funext y
  unfold libBlock
  blk_simp [block1, index1_1]
  congr 1
  blk_ext [index1_1]

/-- What the body carries after `n` points: the scratch row with its first `n` blocks filled; the other scoped buffers ride along. -/
def carried1 (c : Dev nD) (n : ℕ) : sProp 𝕄 :=
  iprop((∃ s, ⌜Filled (far1 W c) (lib1 W c) n s⌝ ∗ owns (c : Thread nD τ) (Memref.whole cc1_scratch0 : Memref sig .tc .vmem S1x16384 .f32) fullShare s)
    ∗ scopedRestBut spec1 c [cc1_scratch0])

/-- The region's proof data: the arrays as found; every input's buffer at its block, the two results at their values. -/
def dat1 (c : Dev nD) : Dat τ (Elt F) Unit ℕ (UR sig nD τ) ℕ cfg1 c where
  A w := W c (Proc.devRef .tc (Pipeline.arrRef spec1 w))
  after w t := match w with
    | ⟨0, _⟩ => block1 W c 0 t
    | ⟨1, _⟩ => block1 W c 1 t
    | ⟨2, _⟩ => rowOf (far1 W c) (lib1 W c)
    | ⟨3, _⟩ => k1_pay2 (rowOf (far1 W c) (lib1 W c))
  Φ t := carried1 W c t.val
  q _ := fullShare
  owed _ := 0

theorem after1_0 (c : Dev nD) (t : Fin cfg1.N) : (dat1 W c).after 0 t = block1 W c 0 t := by dsimp only [dat1]
theorem after1_1 (c : Dev nD) (t : Fin cfg1.N) : (dat1 W c).after 1 t = block1 W c 1 t := by dsimp only [dat1]
theorem after1_2 (c : Dev nD) (t : Fin cfg1.N) : (dat1 W c).after 2 t = rowOf (far1 W c) (lib1 W c) := by dsimp only [dat1]
theorem after1_3 (c : Dev nD) (t : Fin cfg1.N) : (dat1 W c).after 3 t = k1_pay2 (rowOf (far1 W c) (lib1 W c)) := by dsimp only [dat1]

theorem before1_0 (c : Dev nD) (t : Fin cfg1.N) (d) : (dat1 W c).before 0 t d = block1 W c 0 t :=
  ((dat1 W c).before_in_eq_fetched 0 rfl (fun _ => rfl) (fun _ _ _ => rfl) (fun t => by rw [after1_0]; unfold Dat.blockOf block1; dsimp only [dat1]) t d).trans
    (by unfold Dat.fetched Dat.blockOf block1; dsimp only [dat1]; try rfl)
theorem before1_1 (c : Dev nD) (t : Fin cfg1.N) (d) : (dat1 W c).before 1 t d = block1 W c 1 t :=
  ((dat1 W c).before_in_eq_fetched 1 rfl (fun _ => rfl) (fun _ _ _ => rfl) (fun t => by rw [after1_1]; unfold Dat.blockOf block1; dsimp only [dat1]) t d).trans
    (by unfold Dat.fetched Dat.blockOf block1; dsimp only [dat1]; try rfl)

/-- The inputs are never idle. -/
theorem leaves1_0 (c : Dev nD) (t : Fin cfg1.N) : (dat1 W c).leavesExact 0 t = owns (c : Thread nD τ) (st1_0 t) fullShare (block1 W c 0 t) := by
  unfold Dat.leavesExact; rw [show cfg1.idle 0 (cfg1.grid.coords t) = false from rfl, after1_0]
theorem leaves1_1 (c : Dev nD) (t : Fin cfg1.N) : (dat1 W c).leavesExact 1 t = owns (c : Thread nD τ) (st1_1 t) fullShare (block1 W c 1 t) := by
  unfold Dat.leavesExact; rw [show cfg1.idle 1 (cfg1.grid.coords t) = false from rfl, after1_1]

/-- At every point but the last the results' buffers are handed back as found. -/
theorem leaves1_idle (c : Dev nD) (t : Fin cfg1.N) (ht : t.val ≠ 31) (w : Fin cfg1.W) (hw : w = 2 ∨ w = 3) :
    (dat1 W c).leavesExact w t = iprop(∃ d, owns (c : Thread nD τ) ((cfg1.win w).stage (cfg1.slots t w)) fullShare ((dat1 W c).before w t d)) := by
  have h : (k1_cond1 (grid1.coords t) == 1#1) = false := beq_eq_false_iff_ne.mpr fun e => ht ((isLast1_iff t).mp e)
  have hN : t.val < 32 := Nat.lt_of_lt_of_eq t.isLt N_1
  rcases hw with rfl | rfl
  · exact Dat.leavesExact_idle _ _ _ (by show (!(k1_cond1 (grid1.coords t) == 1#1)) = true; rw [h]; rfl)
      (Bool.eq_false_iff.mpr fun e => ht (by have := (flush1_2 t).mp e; omega))
  · exact Dat.leavesExact_idle _ _ _ (by show (!(k1_cond1 (grid1.coords t) == 1#1)) = true; rw [h]; rfl)
      (Bool.eq_false_iff.mpr fun e => ht (by have := (flush1_3 t).mp e; omega))

/-- At the last point they hold their values. -/
theorem leaves1_2 (c : Dev nD) (t : Fin cfg1.N) (ht : t.val = 31) :
    (dat1 W c).leavesExact 2 t = owns (c : Thread nD τ) (st1_2 t) fullShare (rowOf (far1 W c) (lib1 W c)) := by
  unfold Dat.leavesExact
  rw [show cfg1.idle 2 (cfg1.grid.coords t) = false from by
    show (!(k1_cond1 (grid1.coords t) == 1#1)) = false; rw [(isLast1_iff t).mpr ht]; rfl, after1_2]
theorem leaves1_3 (c : Dev nD) (t : Fin cfg1.N) (ht : t.val = 31) :
    (dat1 W c).leavesExact 3 t = owns (c : Thread nD τ) (st1_3 t) fullShare (k1_pay2 (rowOf (far1 W c) (lib1 W c))) := by
  unfold Dat.leavesExact
  rw [show cfg1.idle 3 (cfg1.grid.coords t) = false from by
    show (!(k1_cond1 (grid1.coords t) == 1#1)) = false; rw [(isLast1_iff t).mpr ht]; rfl, after1_3]

theorem carried1_at (c : Dev nD) (t : Fin cfg1.N) : (dat1 W c).Φ t.castSucc = carried1 W c t.val := by
  dsimp only [dat1]; exact Dat.Φ_castSucc (fun n _ => carried1 W c n) t

/-- The body's precondition at a point, window by window. -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d)))

/-- Its postcondition. -/
def post1 (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t ∗ (dat1 W c).leavesExact 3 t)

/-- The body at any point. -/
theorem body1 (c : Dev nD) (t : Fin cfg1.N) :
    pre1 W c t ⊢ wp frame (wpE (defs₀ (F := F)) Variants.none c none) Set.univ (bodyAt1 t) (fun _ => post1 W c t) := by
  unfold pre1 post1 bodyAt1
  simp only [before1_0, before1_1]
  rw [show (dat1 W c).owesAt () t.succ = (dat1 W c).owesAt () t.castSucc from rfl, show (dat1 W c).Φ t.succ = carried1 W c (t.val + 1) from rfl, carried1_at,
    leaves1_0, leaves1_1, block1_0, block1_1]
  by_cases hl : t.val = 31
  · rw [leaves1_2 W c t hl, leaves1_3 W c t hl]
    unfold carried1
    iintro ⟨⟨⟨%s, %hs, HS⟩, Hr⟩, Ho, ⟨%d0, H0⟩, ⟨%d1, H1⟩, ⟨%d2, H2⟩, ⟨%d3, H3⟩⟩
    have hput := filled_put (far1 W c) (lib1 W c) t.val s (k1_off1 (grid1.coords t)) (off1_at t) hs
    have hall : rowPut1 (grid1.coords t) (far1 W c) (libBlock (lib1 W c) t.val) s = rowOf (far1 W c) (lib1 W c) := filled_all _ _ _ (by rw [hl] at hput ⊢; exact hput)
    iapply (last1 c (grid1.coords t) _ _ _ _ _ _ _ _ _ _ (far1 W c) (libBlock (lib1 W c) t.val) s ((isLast1_iff t).mpr hl) Set.univ _)
    isplitl [H0]; · iexact H0
    isplitl [H1]; · iexact H1
    isplitl [H2]; · iexists _; iexact H2
    isplitl [H3]; · iexists _; iexact H3
    isplitl [HS]; · iexact HS
    rw [hall]
    iintro ⟨H0, H1, H2, H3, HS⟩
    isplitl [HS Hr]
    · isplitl [HS]
      · iexists (rowOf (far1 W c) (lib1 W c)); isplitr; · ipureintro; exact fun i _ => rfl
        iexact HS
      iexact Hr
    isplitl [Ho]; · iexact Ho
    isplitl [H0]; · iexact H0
    isplitl [H1]; · iexact H1
    isplitl [H2]; · iexact H2
    iexact H3
  · rw [leaves1_idle W c t hl 2 (.inl rfl), leaves1_idle W c t hl 3 (.inr rfl)]
    unfold carried1
    iintro ⟨⟨⟨%s, %hs, HS⟩, Hr⟩, Ho, ⟨%d0, H0⟩, ⟨%d1, H1⟩, ⟨%d2, H2⟩, ⟨%d3, H3⟩⟩
    iapply (middle1 c (grid1.coords t) _ _ _ _ _ _ _ _ _ _ (far1 W c) (libBlock (lib1 W c) t.val) s (fun h => hl ((isLast1_iff t).mp h)) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr]
    · isplitl [HS]
      · iexists _; isplitr
        swap; · iexact HS
        ipureintro; exact filled_put (far1 W c) (lib1 W c) t.val s (k1_off1 (grid1.coords t)) (off1_at t) hs
      iexact Hr
    isplitl [Ho]; · iexact Ho
    isplitl [H0]; · iexact H0
    isplitl [H1]; · iexact H1
    isplitl [H2]; · iexists d2; iexact H2
    iexists d3; iexact H3

theorem row1 (t : Fin cfg1.N) : defs₀ (F := F) .tc cfg1.body (cfg1.bodyArgs t (cfg1.slots t)) = bodyAt1 t := by
  unfold defs₀; rw [Defs.onTc_tc]

/-- The pipeline's obligation on the body. -/
theorem obligation1 (c : Dev nD) : BodyObligation (dat1 (F := F) W c) (defs₀ (F := F)) Variants.none () Set.univ := fun t => by
  rw [bigSep_W1, bigSep_W1, row1]
  exact triple_restated (body1 W c t) rfl .rfl fun _ => .rfl

/-- The scoped buffers the call stages nothing through: its scratch row and the rest. -/
theorem scoped1 (c : Dev nD) : (Pipeline.scopedRest spec1 c : sProp 𝕄)
    = iprop((∃ f : Buf (Elt F) ((c : Thread nD τ).loc cc1_scratch0), ((c : Thread nD τ).loc cc1_scratch0) ↦{fullShare} f) ∗ scopedRestBut spec1 c [cc1_scratch0]) :=
  Pipeline.scopedRest_split_of_list spec1 c [cc1_scratch0] (by decide) (by decide)

/-- What the region is entered with is the invariant before the first point. -/
theorem enter1 (c : Dev nD) : iprop(Pipeline.scopedRest spec1 c ∗ (BI.emp : sProp 𝕄)) ⊢ (dat1 W c).Φ 0 := by
  rw [show (dat1 W c).Φ 0 = carried1 W c 0 from rfl, scoped1]
  unfold carried1
  simp only [owns_whole]
  iintro ⟨⟨⟨%f, H⟩, Hr⟩, -⟩
  isplitl [H]
  · iexists f; isplitr; · ipureintro; exact filled_zero _ _ _
    iexact H
  iexact Hr

/-- What the invariant after the last point gives back. -/
theorem leave1 (c : Dev nD) : (dat1 W c).Φ (Fin.last cfg1.N) ⊢ iprop(Pipeline.scopedRest spec1 c ∗ (BI.emp : sProp 𝕄)) := by
  rw [show (dat1 W c).Φ (Fin.last cfg1.N) = carried1 W c 32 from congrArg (carried1 W c) ((Fin.val_last _).trans N_1), scoped1]
  unfold carried1
  simp only [owns_whole]
  iintro ⟨⟨%f, -, H⟩, Hr⟩
  isplitl [H Hr]
  · isplitl [H]; · iexists f; iexact H
    iexact Hr
  iempintro

end

end Cert.KernelIdeal.Hand

end
-- ==== Proof.Region2.lean ====
/- The third call as a region of the run: the scratch row of distances filled block by block, the score and the map at the last point. -/
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation scopedRestBut)

variable {F : FTy → Type} [FloatOps F]

local notation "𝕄" => MT nD τ sig Unit (Elt F) ℕ (UR sig nD τ) ℕ

section

variable (W : Dev nD → Valuation τ sig (Elt F))

/-- Window `w`'s block at point `t`, read off its array at the region's entry. -/
def block2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The nearest library row, as the region finds it. -/
abbrev near2 (c : Dev nD) : Vec F S1x1152 .f32 := W c (Proc.devRef .tc main_call0_v6)
/-- The library, as the region finds it. -/
abbrev lib2 (c : Dev nD) : Vec F S16384x1152 .f32 := W c (Proc.devRef .tc main_arg1)
/-- The row the second call left. -/
abbrev trow2 (c : Dev nD) : Vec F S1x16384 .f32 := W c (Proc.devRef .tc main_call0_v1_0)
/-- The minima, as a square. -/
abbrev mins2 (c : Dev nD) : Vec F S56x56 .f32 := W c (Proc.devRef .tc main_call0_v7)
/-- The two weight matrices. -/
abbrev left2 (c : Dev nD) : Vec F S224x56 .f32 := W c (Proc.devRef .tc main_call0_v29)
abbrev right2 (c : Dev nD) : Vec F S56x224 .f32 := W c (Proc.devRef .tc main_call0_v30)
/-- The two results. -/
abbrev score2 (c : Dev nD) : Vec F S1x1 .f32 := scoreOf (rowOf (near2 W c) (lib2 W c)) (trow2 W c) (mins2 W c)
abbrev map2 (c : Dev nD) : Vec F S224x224 .f32 := mapOf (mins2 W c) (left2 W c) (right2 W c)

theorem index2_0 : ∀ t : Fin cfg2.N, win2_0.index t = ![0, 0] := (by decide +kernel : ∀ t : Fin grid2.N, _)
theorem index2_1 : ∀ t : Fin cfg2.N, win2_1.index t = ![t.val % 32, 0] := (by decide +kernel : ∀ t : Fin grid2.N, _)
theorem index2_2 : ∀ t : Fin cfg2.N, win2_2.index t = ![0, 0] := (by decide +kernel : ∀ t : Fin grid2.N, _)
theorem index2_3 : ∀ t : Fin cfg2.N, win2_3.index t = ![0, 0] := (by decide +kernel : ∀ t : Fin grid2.N, _)
theorem index2_4 : ∀ t : Fin cfg2.N, win2_4.index t = ![0, 0] := (by decide +kernel : ∀ t : Fin grid2.N, _)
theorem index2_5 : ∀ t : Fin cfg2.N, win2_5.index t = ![0, 0] := (by decide +kernel : ∀ t : Fin grid2.N, _)

theorem block2_0 (c : Dev nD) (t : Fin cfg2.N) : block2 W c 0 t = near2 W c := by
  funext y
  blk_simp [block2, index2_0]
  congr 1
  blk_ext [index2_0]
theorem block2_1 (c : Dev nD) (t : Fin cfg2.N) : block2 W c 1 t = libBlock (lib2 W c) t.val := by
  funext y
  unfold libBlock
  blk_simp [block2, index2_1]
  congr 1
  blk_ext [index2_1]
theorem block2_2 (c : Dev nD) (t : Fin cfg2.N) : block2 W c 2 t = trow2 W c := by
  funext y
  blk_simp [block2, index2_2]
  congr 1
  blk_ext [index2_2]
theorem block2_3 (c : Dev nD) (t : Fin cfg2.N) : block2 W c 3 t = mins2 W c := by
  funext y
  blk_simp [block2, index2_3]
  congr 1
  blk_ext [index2_3]
theorem block2_4 (c : Dev nD) (t : Fin cfg2.N) : block2 W c 4 t = left2 W c := by
  funext y
  blk_simp [block2, index2_4]
  congr 1
  blk_ext [index2_4]
theorem block2_5 (c : Dev nD) (t : Fin cfg2.N) : block2 W c 5 t = right2 W c := by
  funext y
  blk_simp [block2, index2_5]
  congr 1
  blk_ext [index2_5]

/-- What the body carries after `n` points: the scratch row with its first `n` blocks filled; the other scoped buffers ride along. -/
def carried2 (c : Dev nD) (n : ℕ) : sProp 𝕄 :=
  iprop((∃ s, ⌜Filled (near2 W c) (lib2 W c) n s⌝ ∗ owns (c : Thread nD τ) (Memref.whole cc2_scratch0 : Memref sig .tc .vmem S1x16384 .f32) fullShare s)
    ∗ scopedRestBut spec2 c [cc2_scratch0])

/-- The region's proof data: the arrays as found; every input's buffer at its block, the two results at their values. -/
def dat2 (c : Dev nD) : Dat τ (Elt F) Unit ℕ (UR sig nD τ) ℕ cfg2 c where
  A w := W c (Proc.devRef .tc (Pipeline.arrRef spec2 w))
  after w t := match w with
    | ⟨6, _⟩ => score2 W c
    | ⟨7, _⟩ => map2 W c
    | ⟨0, _⟩ => block2 W c 0 t
    | ⟨1, _⟩ => block2 W c 1 t
    | ⟨2, _⟩ => block2 W c 2 t
    | ⟨3, _⟩ => block2 W c 3 t
    | ⟨4, _⟩ => block2 W c 4 t
    | ⟨5, _⟩ => block2 W c 5 t
  Φ t := carried2 W c t.val
  q _ := fullShare
  owed _ := 0

theorem after2_0 (c : Dev nD) (t : Fin cfg2.N) : (dat2 W c).after 0 t = block2 W c 0 t := by dsimp only [dat2]
theorem after2_1 (c : Dev nD) (t : Fin cfg2.N) : (dat2 W c).after 1 t = block2 W c 1 t := by dsimp only [dat2]
theorem after2_2 (c : Dev nD) (t : Fin cfg2.N) : (dat2 W c).after 2 t = block2 W c 2 t := by dsimp only [dat2]
theorem after2_3 (c : Dev nD) (t : Fin cfg2.N) : (dat2 W c).after 3 t = block2 W c 3 t := by dsimp only [dat2]
theorem after2_4 (c : Dev nD) (t : Fin cfg2.N) : (dat2 W c).after 4 t = block2 W c 4 t := by dsimp only [dat2]
theorem after2_5 (c : Dev nD) (t : Fin cfg2.N) : (dat2 W c).after 5 t = block2 W c 5 t := by dsimp only [dat2]
theorem after2_6 (c : Dev nD) (t : Fin cfg2.N) : (dat2 W c).after 6 t = score2 W c := by dsimp only [dat2]
theorem after2_7 (c : Dev nD) (t : Fin cfg2.N) : (dat2 W c).after 7 t = map2 W c := by dsimp only [dat2]

theorem before2_0 (c : Dev nD) (t : Fin cfg2.N) (d) : (dat2 W c).before 0 t d = block2 W c 0 t :=
  ((dat2 W c).before_in_eq_fetched 0 rfl (fun _ => rfl) (fun _ _ _ => rfl) (fun t => by rw [after2_0]; unfold Dat.blockOf block2; dsimp only [dat2]) t d).trans
    (by unfold Dat.fetched Dat.blockOf block2; dsimp only [dat2]; try rfl)
theorem before2_1 (c : Dev nD) (t : Fin cfg2.N) (d) : (dat2 W c).before 1 t d = block2 W c 1 t :=
  ((dat2 W c).before_in_eq_fetched 1 rfl (fun _ => rfl) (fun _ _ _ => rfl) (fun t => by rw [after2_1]; unfold Dat.blockOf block2; dsimp only [dat2]) t d).trans
    (by unfold Dat.fetched Dat.blockOf block2; dsimp only [dat2]; try rfl)
theorem before2_2 (c : Dev nD) (t : Fin cfg2.N) (d) : (dat2 W c).before 2 t d = block2 W c 2 t :=
  ((dat2 W c).before_in_eq_fetched 2 rfl (fun _ => rfl) (fun _ _ _ => rfl) (fun t => by rw [after2_2]; unfold Dat.blockOf block2; dsimp only [dat2]) t d).trans
    (by unfold Dat.fetched Dat.blockOf block2; dsimp only [dat2]; try rfl)
theorem before2_3 (c : Dev nD) (t : Fin cfg2.N) (d) : (dat2 W c).before 3 t d = block2 W c 3 t :=
  ((dat2 W c).before_in_eq_fetched 3 rfl (fun _ => rfl) (fun _ _ _ => rfl) (fun t => by rw [after2_3]; unfold Dat.blockOf block2; dsimp only [dat2]) t d).trans
    (by unfold Dat.fetched Dat.blockOf block2; dsimp only [dat2]; try rfl)
theorem before2_4 (c : Dev nD) (t : Fin cfg2.N) (d) : (dat2 W c).before 4 t d = block2 W c 4 t :=
  ((dat2 W c).before_in_eq_fetched 4 rfl (fun _ => rfl) (fun _ _ _ => rfl) (fun t => by rw [after2_4]; unfold Dat.blockOf block2; dsimp only [dat2]) t d).trans
    (by unfold Dat.fetched Dat.blockOf block2; dsimp only [dat2]; try rfl)
theorem before2_5 (c : Dev nD) (t : Fin cfg2.N) (d) : (dat2 W c).before 5 t d = block2 W c 5 t :=
  ((dat2 W c).before_in_eq_fetched 5 rfl (fun _ => rfl) (fun _ _ _ => rfl) (fun t => by rw [after2_5]; unfold Dat.blockOf block2; dsimp only [dat2]) t d).trans
    (by unfold Dat.fetched Dat.blockOf block2; dsimp only [dat2]; try rfl)

/-- The inputs are never idle. -/
theorem leaves2_0 (c : Dev nD) (t : Fin cfg2.N) : (dat2 W c).leavesExact 0 t = owns (c : Thread nD τ) (st2_0 t) fullShare (block2 W c 0 t) := by
  unfold Dat.leavesExact; rw [show cfg2.idle 0 (cfg2.grid.coords t) = false from rfl, after2_0]
theorem leaves2_1 (c : Dev nD) (t : Fin cfg2.N) : (dat2 W c).leavesExact 1 t = owns (c : Thread nD τ) (st2_1 t) fullShare (block2 W c 1 t) := by
  unfold Dat.leavesExact; rw [show cfg2.idle 1 (cfg2.grid.coords t) = false from rfl, after2_1]
theorem leaves2_2 (c : Dev nD) (t : Fin cfg2.N) : (dat2 W c).leavesExact 2 t = owns (c : Thread nD τ) (st2_2 t) fullShare (block2 W c 2 t) := by
  unfold Dat.leavesExact; rw [show cfg2.idle 2 (cfg2.grid.coords t) = false from rfl, after2_2]
theorem leaves2_3 (c : Dev nD) (t : Fin cfg2.N) : (dat2 W c).leavesExact 3 t = owns (c : Thread nD τ) (st2_3 t) fullShare (block2 W c 3 t) := by
  unfold Dat.leavesExact; rw [show cfg2.idle 3 (cfg2.grid.coords t) = false from rfl, after2_3]
theorem leaves2_4 (c : Dev nD) (t : Fin cfg2.N) : (dat2 W c).leavesExact 4 t = owns (c : Thread nD τ) (st2_4 t) fullShare (block2 W c 4 t) := by
  unfold Dat.leavesExact; rw [show cfg2.idle 4 (cfg2.grid.coords t) = false from rfl, after2_4]
theorem leaves2_5 (c : Dev nD) (t : Fin cfg2.N) : (dat2 W c).leavesExact 5 t = owns (c : Thread nD τ) (st2_5 t) fullShare (block2 W c 5 t) := by
  unfold Dat.leavesExact; rw [show cfg2.idle 5 (cfg2.grid.coords t) = false from rfl, after2_5]

/-- At every point but the last the results' buffers are handed back as found. -/
theorem leaves2_idle (c : Dev nD) (t : Fin cfg2.N) (ht : t.val ≠ 31) (w : Fin cfg2.W) (hw : w = 6 ∨ w = 7) :
    (dat2 W c).leavesExact w t = iprop(∃ d, owns (c : Thread nD τ) ((cfg2.win w).stage (cfg2.slots t w)) fullShare ((dat2 W c).before w t d)) := by
  have h : (k2_cond1 (grid2.coords t) == 1#1) = false := beq_eq_false_iff_ne.mpr fun e => ht ((isLast2_iff t).mp e)
  have hN : t.val < 32 := Nat.lt_of_lt_of_eq t.isLt N_2
  rcases hw with rfl | rfl
  · exact Dat.leavesExact_idle _ _ _ (by show (!(k2_cond1 (grid2.coords t) == 1#1)) = true; rw [h]; rfl)
      (Bool.eq_false_iff.mpr fun e => ht (by have := (flush2_6 t).mp e; omega))
  · exact Dat.leavesExact_idle _ _ _ (by show (!(k2_cond1 (grid2.coords t) == 1#1)) = true; rw [h]; rfl)
      (Bool.eq_false_iff.mpr fun e => ht (by have := (flush2_7 t).mp e; omega))

/-- At the last point they hold their values. -/
theorem leaves2_6 (c : Dev nD) (t : Fin cfg2.N) (ht : t.val = 31) :
    (dat2 W c).leavesExact 6 t = owns (c : Thread nD τ) (st2_6 t) fullShare (score2 W c) := by
  unfold Dat.leavesExact
  rw [show cfg2.idle 6 (cfg2.grid.coords t) = false from by
    show (!(k2_cond1 (grid2.coords t) == 1#1)) = false; rw [(isLast2_iff t).mpr ht]; rfl, after2_6]
theorem leaves2_7 (c : Dev nD) (t : Fin cfg2.N) (ht : t.val = 31) :
    (dat2 W c).leavesExact 7 t = owns (c : Thread nD τ) (st2_7 t) fullShare (map2 W c) := by
  unfold Dat.leavesExact
  rw [show cfg2.idle 7 (cfg2.grid.coords t) = false from by
    show (!(k2_cond1 (grid2.coords t) == 1#1)) = false; rw [(isLast2_iff t).mpr ht]; rfl, after2_7]

theorem carried2_at (c : Dev nD) (t : Fin cfg2.N) : (dat2 W c).Φ t.castSucc = carried2 W c t.val := by
  dsimp only [dat2]; exact Dat.Φ_castSucc (fun n _ => carried2 W c n) t

/-- The body's precondition at a point, window by window. -/
def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d))
    ∗ (∃ d, owns (c : Thread nD τ) (st2_5 t) fullShare ((dat2 W c).before 5 t d))
    ∗ (∃ d, owns (c : Thread nD τ) (st2_6 t) fullShare ((dat2 W c).before 6 t d))
    ∗ (∃ d, owns (c : Thread nD τ) (st2_7 t) fullShare ((dat2 W c).before 7 t d)))

/-- Its postcondition. -/
def post2 (c : Dev nD) (t : Fin cfg2.N) : sProp 𝕄 :=
  iprop((dat2 W c).Φ t.succ ∗ (dat2 W c).owesAt () t.succ
    ∗ (dat2 W c).leavesExact 0 t ∗ (dat2 W c).leavesExact 1 t ∗ (dat2 W c).leavesExact 2 t ∗ (dat2 W c).leavesExact 3 t ∗ (dat2 W c).leavesExact 4 t ∗ (dat2 W c).leavesExact 5 t ∗ (dat2 W c).leavesExact 6 t ∗ (dat2 W c).leavesExact 7 t)

/-- The body at any point. -/
theorem body2 (c : Dev nD) (t : Fin cfg2.N) :
    pre2 W c t ⊢ wp frame (wpE (defs₀ (F := F)) Variants.none c none) Set.univ (bodyAt2 t) (fun _ => post2 W c t) := by
  unfold pre2 post2 bodyAt2
  simp only [before2_0, before2_1, before2_2, before2_3, before2_4, before2_5]
  rw [show (dat2 W c).owesAt () t.succ = (dat2 W c).owesAt () t.castSucc from rfl, show (dat2 W c).Φ t.succ = carried2 W c (t.val + 1) from rfl, carried2_at,
    leaves2_0, leaves2_1, leaves2_2, leaves2_3, leaves2_4, leaves2_5, block2_0, block2_1, block2_2, block2_3, block2_4, block2_5]
  by_cases hl : t.val = 31
  · rw [leaves2_6 W c t hl, leaves2_7 W c t hl]
    unfold carried2
    iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hput := filled_put (near2 W c) (lib2 W c) t.val s (k2_off1 (grid2.coords t)) (off2_at t) hs
    have hall : rowPut2 (grid2.coords t) (near2 W c) (libBlock (lib2 W c) t.val) s = rowOf (near2 W c) (lib2 W c) := filled_all _ _ _ (by rw [hl] at hput ⊢; exact hput)
    iapply (last2 c (grid2.coords t) _ _ _ _ _ _ _ _ _ _ _ _ _ _ _ _ _ _ (near2 W c) (libBlock (lib2 W c) t.val) (trow2 W c) (mins2 W c) (left2 W c) (right2 W c) s
      ((isLast2_iff t).mpr hl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    rw [hall]
    iintro ⟨H0, H1, H2, H3, H4, H5, H6, H7, HS⟩
    isplitl [HS Hr]
    · isplitl [HS]
      · iexists (rowOf (near2 W c) (lib2 W c)); isplitr; · ipureintro; exact fun i _ => rfl
        iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [leaves2_idle W c t hl 6 (.inl rfl), leaves2_idle W c t hl 7 (.inr rfl)]
    unfold carried2
    iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (middle2 c (grid2.coords t) _ _ _ _ _ _ _ _ _ _ _ _ _ _ _ _ _ _ (near2 W c) (libBlock (lib2 W c) t.val) (trow2 W c) (mins2 W c) (left2 W c) (right2 W c) s
      (fun h => hl ((isLast2_iff t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hr]
    · isplitl [HS]
      · iexists _; isplitr
        swap; · iexact HS
        ipureintro; exact filled_put (near2 W c) (lib2 W c) t.val s (k2_off1 (grid2.coords t)) (off2_at t) hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7

theorem row2 (t : Fin cfg2.N) : defs₀ (F := F) .tc cfg2.body (cfg2.bodyArgs t (cfg2.slots t)) = bodyAt2 t := by
  unfold defs₀; rw [Defs.onTc_tc]

/-- The pipeline's obligation on the body. -/
theorem obligation2 (c : Dev nD) : BodyObligation (dat2 (F := F) W c) (defs₀ (F := F)) Variants.none () Set.univ := fun t => by
  rw [bigSep_W2, bigSep_W2, row2]
  exact triple_restated (body2 W c t) rfl .rfl fun _ => .rfl

/-- The scoped buffers the call stages nothing through: its scratch row and the rest. -/
theorem scoped2 (c : Dev nD) : (Pipeline.scopedRest spec2 c : sProp 𝕄)
    = iprop((∃ f : Buf (Elt F) ((c : Thread nD τ).loc cc2_scratch0), ((c : Thread nD τ).loc cc2_scratch0) ↦{fullShare} f) ∗ scopedRestBut spec2 c [cc2_scratch0]) :=
  Pipeline.scopedRest_split_of_list spec2 c [cc2_scratch0] (by decide) (by decide)

/-- What the region is entered with is the invariant before the first point. -/
theorem enter2 (c : Dev nD) : iprop(Pipeline.scopedRest spec2 c ∗ (BI.emp : sProp 𝕄)) ⊢ (dat2 W c).Φ 0 := by
  rw [show (dat2 W c).Φ 0 = carried2 W c 0 from rfl, scoped2]
  unfold carried2
  simp only [owns_whole]
  iintro ⟨⟨⟨%f, H⟩, Hr⟩, -⟩
  isplitl [H]
  · iexists f; isplitr; · ipureintro; exact filled_zero _ _ _
    iexact H
  iexact Hr

/-- What the invariant after the last point gives back. -/
theorem leave2 (c : Dev nD) : (dat2 W c).Φ (Fin.last cfg2.N) ⊢ iprop(Pipeline.scopedRest spec2 c ∗ (BI.emp : sProp 𝕄)) := by
  rw [show (dat2 W c).Φ (Fin.last cfg2.N) = carried2 W c 32 from congrArg (carried2 W c) ((Fin.val_last _).trans N_2), scoped2]
  unfold carried2
  simp only [owns_whole]
  iintro ⟨⟨%f, -, H⟩, Hr⟩
  isplitl [H Hr]
  · isplitl [H]; · iexists f; iexact H
    iexact Hr
  iempintro

end

end Cert.KernelIdeal.Hand

end
-- ==== Proof.Run.lean ====
/- The run of the whole program: three calls with host operations between them, from any memory with every semaphore at zero. Every buffer
   that outlives the calls ends at the last of a chain of valuations. -/
module

public import proofs.«01_k».proof.Proof.Region0
public import proofs.«01_k».proof.Proof.Region1
public import proofs.«01_k».proof.Proof.Region2
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion ucRefs)
open Idealize.ShloMosaic.StableHlo (held)

variable {F : FTy → Type} [FloatOps F]

local notation "𝕄" => MT nD τ sig Unit (Elt F) ℕ (UR sig nD τ) ℕ

variable (m : (ℓ : Loc nD τ sig) → Buf (Elt F) ℓ)

/-! ## The valuations between the items -/

/-- At launch. -/
def W0 (c : Dev nD) : Valuation τ sig (Elt F) := fun b => m (c, b)
/-- After the first call. -/
def W1 (c : Dev nD) : Valuation τ sig (Elt F) := afterRegion (dat0 (W0 m) c) (W0 m c)
/-- After the second call. -/
def W2 (c : Dev nD) : Valuation τ sig (Elt F) := afterRegion (dat1 (W1 m) c) (W1 m c)
/-- After the host operations that prepare the third call. -/
def W3 (c : Dev nD) : Valuation τ sig (Elt F) := StableHlo.after hostOps2 (W2 m c)
/-- After the third call. -/
def W4 (c : Dev nD) : Valuation τ sig (Elt F) := afterRegion (dat2 (W3 m) c) (W3 m c)
/-- At the end. -/
def W5 (c : Dev nD) : Valuation τ sig (Elt F) := StableHlo.after hostOps3 (W4 m c)

/-- The three calls' proof data. -/
def pdats : (p : Fin 3) → (c : Dev nD) → Dat τ (Elt F) Unit ℕ (UR sig nD τ) ℕ (cfgs p) c
  | 0 => dat0 (W0 m)
  | 1 => dat1 (W1 m)
  | 2 => dat2 (W3 m)

/-! ## The launch's parameters -/

/-- One index at every TensorCore semaphore, all at level zero. -/
def indices : GSem nD τ sig → Finset Unit := fun g => if g.1.2 = .tc then {()} else ∅
def levels : GSem nD τ sig → Unit → ℕ := fun _ _ => 0

theorem indices_off (g : GSem nD τ sig) (h : g.1.2 ≠ .tc) : indices g = ∅ := by unfold indices; exact if_neg h

theorem cut (p : Fin 3) : Pipeline.LevelCut (pcfgs (F := F)) adm () indices levels p (fun _ : Dev nD => (0 : CellTallies nD τ sig Unit)) (fun _ => 0) where
  hι _ _ _ := by unfold indices; rw [if_pos rfl]; exact Finset.mem_singleton_self _
  hιb _ _ _ := le_refl _
  hD _ _ _ h := absurd h (lt_irrefl _)

/-- What rides beside the buffers: what the core owes, which is nothing. -/
def rest (c : Dev nD) : sProp 𝕄 := iprop((∃ Wd, owes (c : Thread nD τ) (0 : CellTallies nD τ sig Unit) Wd) ∗ emp ∗ emp)

/-! ## The regions -/

def reg0 : RegionSeg (pcfgs (F := F)) adm (pdats m) () defs₀ Variants.none indices levels 0 :=
  RegionSeg.ofHeldIn (pcfgs (F := F)) adm (pdats m) () defs₀ Variants.none indices levels 0 (fun _ => 0) (ucRefs τ sig) (fun _ => iprop(emp)) (fun _ => iprop(emp))
    launch0.toP rfl (fun c => (obligation0 (W0 m) c).loose) (fun _ _ => rfl) (fun _ => rfl) (fun c w => (dat0 (W0 m) c).share_full (fun _ => rfl) w)
    (fun c => enter0 (W0 m) c) (fun c => leave0 (W0 m) c) (fun _ => 0) (cut 0) (fun _ => iprop(emp)) (W0 m) (fun _ _ => rfl)

def reg1 : RegionSeg (pcfgs (F := F)) adm (pdats m) () defs₀ Variants.none indices levels 1 :=
  RegionSeg.ofHeldIn (pcfgs (F := F)) adm (pdats m) () defs₀ Variants.none indices levels 1 (fun _ => 0) (ucRefs τ sig) (fun _ => iprop(emp)) (fun _ => iprop(emp))
    launch1.toP rfl (fun c => (obligation1 (W1 m) c).loose) (fun _ _ => rfl) (fun _ => rfl) (fun c w => (dat1 (W1 m) c).share_full (fun _ => rfl) w)
    (fun c => enter1 (W1 m) c) (fun c => leave1 (W1 m) c) (fun _ => 0) (cut 1) (fun _ => iprop(emp)) (W1 m) (fun _ _ => rfl)

def reg2 : RegionSeg (pcfgs (F := F)) adm (pdats m) () defs₀ Variants.none indices levels 2 :=
  RegionSeg.ofHeldIn (pcfgs (F := F)) adm (pdats m) () defs₀ Variants.none indices levels 2 (fun _ => 0) (ucRefs τ sig) (fun _ => iprop(emp)) (fun _ => iprop(emp))
    launch2.toP rfl (fun c => (obligation2 (W3 m) c).loose) (fun _ _ => rfl) (fun _ => rfl) (fun c w => (dat2 (W3 m) c).share_full (fun _ => rfl) w)
    (fun c => enter2 (W3 m) c) (fun c => leave2 (W3 m) c) (fun _ => 0) (cut 2) (fun _ => iprop(emp)) (W3 m) (fun _ _ => rfl)

theorem arrs0 : Pipeline.arrRefs (τ := τ) spec0 ⊆ ucRefs τ sig := Pipeline.arrRefs_sub_ucRefs _ (by decide)
theorem arrs1 : Pipeline.arrRefs (τ := τ) spec1 ⊆ ucRefs τ sig := Pipeline.arrRefs_sub_ucRefs _ (by decide)
theorem arrs2 : Pipeline.arrRefs (τ := τ) spec2 ⊆ ucRefs τ sig := Pipeline.arrRefs_sub_ucRefs _ (by decide)

theorem pre_reg0 (c : Dev nD) : iprop(held (c : Thread nD τ) (ucRefs τ sig) (W0 m c) ∗ rest c) ⊢ (reg0 m).pre c := by
  unfold reg0 rest
  exact RegionSeg.ofHeldIn_pre (p := (0 : Fin 3)) (pcs := pcfgs (F := F)) (D := fun _ => 0) (W := W0 m) (X := fun _ => iprop(emp)) (R := fun _ => iprop(emp)) arrs0 c
theorem post_reg0 (c : Dev nD) : (reg0 m).post c ⊢ iprop(held (c : Thread nD τ) (ucRefs τ sig) (W1 m c) ∗ rest c) :=
  RegionSeg.ofHeldIn_post (p := (0 : Fin 3)) (pcs := pcfgs (F := F)) arrs0 c
theorem pre_reg1 (c : Dev nD) : iprop(held (c : Thread nD τ) (ucRefs τ sig) (W1 m c) ∗ rest c) ⊢ (reg1 m).pre c := by
  unfold reg1 rest
  exact RegionSeg.ofHeldIn_pre (p := (1 : Fin 3)) (pcs := pcfgs (F := F)) (D := fun _ => 0) (W := W1 m) (X := fun _ => iprop(emp)) (R := fun _ => iprop(emp)) arrs1 c
theorem post_reg1 (c : Dev nD) : (reg1 m).post c ⊢ iprop(held (c : Thread nD τ) (ucRefs τ sig) (W2 m c) ∗ rest c) :=
  RegionSeg.ofHeldIn_post (p := (1 : Fin 3)) (pcs := pcfgs (F := F)) arrs1 c
theorem pre_reg2 (c : Dev nD) : iprop(held (c : Thread nD τ) (ucRefs τ sig) (W3 m c) ∗ rest c) ⊢ (reg2 m).pre c := by
  unfold reg2 rest
  exact RegionSeg.ofHeldIn_pre (p := (2 : Fin 3)) (pcs := pcfgs (F := F)) (D := fun _ => 0) (W := W3 m) (X := fun _ => iprop(emp)) (R := fun _ => iprop(emp)) arrs2 c
theorem post_reg2 (c : Dev nD) : (reg2 m).post c ⊢ iprop(held (c : Thread nD τ) (ucRefs τ sig) (W4 m c) ∗ rest c) :=
  RegionSeg.ofHeldIn_post (p := (2 : Fin 3)) (pcs := pcfgs (F := F)) arrs2 c

/-! ## The host stretches and the list of items -/

def stretch2 : HostSeg (Ix := Unit) (Name := ℕ) (U := UR sig nD τ) (Lvl := ℕ) (pcfgs (F := F)) defs₀ Variants.none indices levels :=
  HostSeg.ofOps _ _ _ _ _ (ucRefs τ sig) hostOps2 (fun op h => Pipeline.sub_ucRefs op ((List.forall_iff_forall_mem.mp hostOps2_sub) op h))
    (fun op h => (List.forall_iff_forall_mem.mp hostOps2_fresh) op h) (W2 m) rest

def stretch3 : HostSeg (Ix := Unit) (Name := ℕ) (U := UR sig nD τ) (Lvl := ℕ) (pcfgs (F := F)) defs₀ Variants.none indices levels :=
  HostSeg.ofOps _ _ _ _ _ (ucRefs τ sig) hostOps3 (fun op h => Pipeline.sub_ucRefs op ((List.forall_iff_forall_mem.mp hostOps3_sub) op h))
    (fun op h => (List.forall_iff_forall_mem.mp hostOps3_fresh) op h) (W4 m) rest

abbrev items (c : Dev nD) : List (Seg (pcfgs (F := F)) adm (pdats m) () defs₀ Variants.none indices levels) :=
  [.region (reg0 m), .region (reg1 m), .host (stretch2 m), .region (reg2 m), .host (stretch3 m)]

/-- The pipelines' launch element. -/
def launchElt : UR sig nD τ := initOf (Pipeline.cells cfgs cellOf_inj) (Pipeline.launchToks cfgs cellOf_inj)

theorem launchElt_own : (ownU launchElt : sProp 𝕄)
    ⊢ |={Set.univ}=> iprop(BI.own ((emb₁ : Emb (UR sig nD τ) 𝕄) (initOf (Pipeline.cells cfgs cellOf_inj) (Pipeline.launchToks cfgs cellOf_inj)))
      ∗ bigSep Finset.univ fun _ : Dev nD => (iprop(emp) : sProp 𝕄)) := by
  unfold launchElt
  rw [ownU_emb₁]
  iintro H
  imodintro
  isplitl [H]; · iexact H
  iapply (show (BI.emp : sProp 𝕄) ⊢ bigSep Finset.univ (fun _ : Dev nD => (BI.emp : sProp 𝕄)) from by rw [BI.bigSep_emp_const])
  iempintro

-- The launch theorem's implicit arguments are found by unifying its conclusion with this one.
set_option backward.isDefEq.respectTransparency.types false in
/-- Every weakly fair execution of @main, from any memory with zero counters, ends with every buffer that outlives the calls at `W5` and every
    semaphore at zero. -/
theorem run (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = W5 m c (Proc.devRef .tc b)) ∧ r.2.sem = fun _ => 0) := by
  refine Pipeline.θ_run_regions_kit_dev_sems (pcfgs (F := F)) adm (pdats m) () cellOf_inj (emb₁ : Emb (UR sig nD τ) 𝕄) defs₀ Variants.none indices levels m ρ main (items m)
    (fun c Q => by
      rewrite [main_chain c, Seg.run_eq_chain,
        show (items m c).map Seg.prog = [Prog.lift (.customCall (Pipeline.entry 0) ()), Prog.lift (.customCall (Pipeline.entry 1) ()), StableHlo.seq hostOps2,
          Prog.lift (.customCall (Pipeline.entry 2) ()), StableHlo.seq hostOps3] from rfl]
      dsimp (config := { failIfUnchanged := false }) only
      exact .rfl)
    (fun c => by simp only [items, Seg.pipes_host, Seg.pipes_region, Seg.pipes_nil]; decide) 0 indices_off (fun _ => iprop(emp)) launchElt launchElt_own
    (T₀ := fun c => iprop(held (c : Thread nD τ) (ucRefs τ sig) (W0 m c) ∗ rest c))
    (Tₙ := fun c => held (c : Thread nD τ) (ucRefs τ sig) (W5 m c))
    (hch := fun c => ⟨pre_reg0 m c, (post_reg0 m c).trans (pre_reg1 m c), post_reg1 m c, pre_reg2 m c, post_reg2 m c, by
      show iprop(held (c : Thread nD τ) (ucRefs τ sig) (W5 m c) ∗ rest c) ⊢ _
      unfold rest
      iintro ⟨Hh, HO, -, -⟩
      isplitl [Hh]; · iexact Hh
      iexact HO⟩)
    (hinit := ?_) (QY := fun c s => ∀ b : Ref sig .tc, b.isScoped = false → s.mem ((c.tc : Thread nD τ).loc b) = W5 m c (Proc.devRef .tc b))
    (hfin := fun c s' => ?_) (hQ := fun _ h hz => ⟨h, funext fun g => hz g (.inr (regions_no_unscoped g.2))⟩)
  · refine Pipeline.initEach indices levels fun c => ?_
    rw [show unscopedBufs c (fun b => m ((c : Thread nD τ).loc b)) = held (c : Thread nD τ) (ucRefs τ sig) (W0 m c) from Pipeline.unscopedBufs_held c (W0 m c)]
    iintro ⟨⟨Hh, -, HO, -, -, -⟩, -⟩
    imodintro
    isplitl [Hh]; · iexact Hh
    unfold rest
    isplitl [HO]; · iexists ∅; iexact HO
    isplitr; · iempintro
    iempintro
  · unfold held
    iintro ⟨Hh, HSI⟩
    ihave Hr := (pointsTo_read_all (ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

/-! ## What each item leaves unchanged -/

theorem W1_of (c : Dev nD) (b : Ref sig .tc) (h : ∀ w, Pipeline.arrRef spec0 w = b → (cfg0.win w).isOut = false) :
    W1 m c (Proc.devRef .tc b) = W0 m c (Proc.devRef .tc b) :=
  Pipeline.afterRegion_keeps (dat0 (W0 m) c) (W0 m c) launch0.win.arr_inj (fun _ => rfl) b h
theorem W2_of (c : Dev nD) (b : Ref sig .tc) (h : ∀ w, Pipeline.arrRef spec1 w = b → (cfg1.win w).isOut = false) :
    W2 m c (Proc.devRef .tc b) = W1 m c (Proc.devRef .tc b) :=
  Pipeline.afterRegion_keeps (dat1 (W1 m) c) (W1 m c) launch1.win.arr_inj (fun _ => rfl) b h
theorem W3_of (c : Dev nD) (b : Ref sig .tc) (h : b ∉ hostOps2_W) : W3 m c (Proc.devRef .tc b) = W2 m c (Proc.devRef .tc b) :=
  StableHlo.after_of_writes_sub hostOps2 _ hostOps2_writes h
theorem W4_of (c : Dev nD) (b : Ref sig .tc) (h : ∀ w, Pipeline.arrRef spec2 w = b → (cfg2.win w).isOut = false) :
    W4 m c (Proc.devRef .tc b) = W3 m c (Proc.devRef .tc b) :=
  Pipeline.afterRegion_keeps (dat2 (W3 m) c) (W3 m c) launch2.win.arr_inj (fun _ => rfl) b h
theorem W5_of (c : Dev nD) (b : Ref sig .tc) (h : b ∉ hostOps3_W) : W5 m c (Proc.devRef .tc b) = W4 m c (Proc.devRef .tc b) :=
  StableHlo.after_of_writes_sub hostOps3 _ hostOps3_writes h

/-- The arguments are never written. -/
theorem W5_arg0 (c : Dev nD) : W5 m c (Proc.devRef .tc main_arg0) = m ((c : Thread nD τ).loc main_arg0) :=
  (W5_of m c main_arg0 (by decide)).trans <| (W4_of m c main_arg0 (by decide)).trans <| (W3_of m c main_arg0 (by decide)).trans <|
    (W2_of m c main_arg0 (by decide)).trans <| W1_of m c main_arg0 (by decide)
theorem W5_arg1 (c : Dev nD) : W5 m c (Proc.devRef .tc main_arg1) = m ((c : Thread nD τ).loc main_arg1) :=
  (W5_of m c main_arg1 (by decide)).trans <| (W4_of m c main_arg1 (by decide)).trans <| (W3_of m c main_arg1 (by decide)).trans <|
    (W2_of m c main_arg1 (by decide)).trans <| W1_of m c main_arg1 (by decide)

/-- The frame: the arguments end as launched, every semaphore at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs (onTc main) _).mono (fun r h => ⟨fun c => ⟨(h.1 c main_arg0 (by decide)).trans (W5_arg0 m c), (h.1 c main_arg1 (by decide)).trans (W5_arg1 m c)⟩, h.2⟩) (run m ρ)

end Cert.KernelIdeal.Hand

end
-- ==== Proof.BitsRun.lean ====
/- The run of the program as printed: it is the program of the idealization, read at the floats' bits. -/
module

public import proofs.«01_k».proof.Proof.Run
public import proofs.«01_k».proof.Proof.Gen.Kernel
public import proofs.«01_k».proof.Proof.Gen.Kernel.Launch
public import Idealize.ShloMosaic.PureOps.BitExact

@[expose] public section

set_option maxRecDepth 16384
set_option maxHeartbeats 8000000

noncomputable section

namespace Cert.Kernel.Hand

open Cert.Kernel Cert.Kernel.Gen
open Idealize.ShloMosaic Idealize.ShloMosaic.TcCoe Idealize.SL.Sem

/-- The bodies of the calls are the same. -/
theorem bodies_eq : Cert.Kernel.defs₀ (F := Bits) = Cert.KernelIdeal.defs₀ (F := Bits) := by
  refine congrArg Defs.onTc ?_
  funext l x
  match l, x with
  | 0, _ => rfl
  | 1, _ => rfl
  | 2, _ => rfl

theorem defs_eq : Cert.Kernel.defs (F := Bits) = Cert.KernelIdeal.defs (F := Bits) :=
  congrArg (Pipeline.defs (Cert.KernelIdeal.pcfgs (F := Bits))) bodies_eq

theorem main_eq : Cert.Kernel.main (F := Bits) = Cert.KernelIdeal.main (F := Bits) := rfl

theorem frame_run (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [defs_eq]
  exact Cert.KernelIdeal.Hand.frame_run (F := Bits) m ρ

end Cert.Kernel.Hand

end
-- ==== Proof.Model.lean ====
/- The mathematics of the kernel and its reference, over the extended reals: squared distances spelled as norms less a product, least
   entries and their first positions, and what clamping and the square root leave of them. -/
module

public import Idealize.ShloMosaic.PureOps.Ideal
public import Idealize.ShloMosaic.PureOps.Ideal.Laws
public import Mathlib.Data.EReal.Basic
public import Mathlib.Data.EReal.Operations

@[expose] public section

noncomputable section

namespace Cert.Model

open Idealize.ShloMosaic

/-! ## The square root, clamped below at zero -/

/-- The square root of what is left of a number clamped below at zero. -/
def root (x : EReal) : EReal := Ideal.sqrt (max x 0)

theorem sqrt_coe {r : ℝ} (h : 0 ≤ r) : Ideal.sqrt (r : EReal) = ((Real.sqrt r : ℝ) : EReal) := by
  show (if r < 0 then ⊥ else ((Real.sqrt r : ℝ) : EReal)) = _
  rw [if_neg (not_lt.mpr h)]

theorem sqrt_zero : Ideal.sqrt 0 = 0 := by
  have := sqrt_coe (le_refl (0 : ℝ))
  simpa using this

theorem sqrt_top : Ideal.sqrt ⊤ = ⊤ := rfl

/-- On the numbers from zero up the square root is strictly increasing. -/
theorem sqrt_lt_sqrt {x y : EReal} (hx : 0 ≤ x) (h : x < y) : Ideal.sqrt x < Ideal.sqrt y := by
  induction x with
  | bot => exact absurd hx (by simp)
  | top => exact absurd h (by simp)
  | coe a =>
    have ha : 0 ≤ a := by exact_mod_cast hx
    induction y with
    | bot => exact absurd h (by simp)
    | top => rw [sqrt_coe ha]; exact EReal.coe_lt_top _
    | coe b =>
      have hab : a < b := by exact_mod_cast h
      rw [sqrt_coe ha, sqrt_coe (ha.trans hab.le)]
      exact_mod_cast Real.sqrt_lt_sqrt ha hab

theorem sqrt_le_sqrt {x y : EReal} (hx : 0 ≤ x) (h : x ≤ y) : Ideal.sqrt x ≤ Ideal.sqrt y := by
  rcases h.eq_or_lt with rfl | h
  · exact le_rfl
  · exact (sqrt_lt_sqrt hx h).le

theorem root_mono : Monotone root := fun _ _ h => sqrt_le_sqrt (le_max_right _ _) (max_le_max h le_rfl)

theorem root_top : root ⊤ = ⊤ := by unfold root; rw [max_eq_left le_top]; rfl

theorem root_nonneg (x : EReal) : 0 ≤ root x := by
  have := sqrt_le_sqrt (le_refl 0) (le_max_right x 0)
  rwa [sqrt_zero] at this

theorem root_of_nonpos {x : EReal} (h : x ≤ 0) : root x = 0 := by unfold root; rw [max_eq_right h, sqrt_zero]

theorem root_lt_root {x y : EReal} (h : x < y) (hy : 0 < y) : root x < root y :=
  sqrt_lt_sqrt (le_max_right _ _) (by rw [max_eq_left hy.le]; exact max_lt h hy)

theorem root_pos {x : EReal} (h : 0 < x) : 0 < root x := by
  have := root_lt_root (x := 0) h h
  rwa [root_of_nonpos le_rfl] at this

/-! ## Least and greatest entries of a table -/

/-- A fold of `min` from `⊤` is the least entry. -/
theorem fold_min_eq_inf {ι : Type} (s : Finset ι) (f : ι → EReal) : s.fold min ⊤ f = s.inf f := rfl
/-- A fold of `max` from `⊥` is the greatest entry. -/
theorem fold_max_eq_sup {ι : Type} (s : Finset ι) (f : ι → EReal) : s.fold max ⊥ f = s.sup f := rfl

/-- The clamped square root of the least entry is the least of the clamped square roots. -/
theorem root_inf {ι : Type} (s : Finset ι) (f : ι → EReal) : root (s.inf f) = s.inf fun i => root (f i) :=
  Finset.comp_inf_eq_inf_comp root (fun _ _ => root_mono.map_min) root_top

/-- The square root of the greatest of numbers from zero up is the greatest of the square roots. -/
theorem sqrt_sup {ι : Type} (s : Finset ι) (hs : s.Nonempty) (f : ι → EReal) (hf : ∀ i, 0 ≤ f i) :
    Ideal.sqrt (s.sup f) = s.sup fun i => Ideal.sqrt (f i) := by
  obtain ⟨i, hi, h⟩ := Finset.exists_mem_eq_sup s hs f
  refine le_antisymm ?_ (Finset.sup_le fun j hj => sqrt_le_sqrt (hf j) (Finset.le_sup hj))
  rw [h]
  exact Finset.le_sup (f := fun i => Ideal.sqrt (f i)) hi

/-- `k` is the first position of the least entry of `f`. -/
def FirstMin {n : ℕ} (f : Fin n → EReal) (k : Fin n) : Prop := (∀ j, f k ≤ f j) ∧ ∀ j, j < k → f k < f j
/-- `k` is the first position of the greatest entry of `f`. -/
def FirstMax {n : ℕ} (f : Fin n → EReal) (k : Fin n) : Prop := (∀ j, f j ≤ f k) ∧ ∀ j, j < k → f j < f k

theorem FirstMin.unique {n : ℕ} {f : Fin n → EReal} {k l : Fin n} (hk : FirstMin f k) (hl : FirstMin f l) : k = l := by
  rcases lt_trichotomy k l with h | h | h
  · exact absurd (hl.2 k h) (not_lt.mpr (hk.1 l))
  · exact h
  · exact absurd (hk.2 l h) (not_lt.mpr (hl.1 k))

theorem FirstMax.unique {n : ℕ} {f : Fin n → EReal} {k l : Fin n} (hk : FirstMax f k) (hl : FirstMax f l) : k = l := by
  rcases lt_trichotomy k l with h | h | h
  · exact absurd (hl.2 k h) (not_lt.mpr (hk.1 l))
  · exact h
  · exact absurd (hk.2 l h) (not_lt.mpr (hl.1 k))

theorem FirstMin.exists {n : ℕ} (hn : 0 < n) (f : Fin n → EReal) : ∃ k, FirstMin f k := by
  classical
  let s : Finset (Fin n) := Finset.univ.filter fun k => ∀ j, f k ≤ f j
  have hs : s.Nonempty := by
    obtain ⟨k, -, hk⟩ := Finset.exists_min_image Finset.univ f ⟨⟨0, hn⟩, Finset.mem_univ _⟩
    exact ⟨k, Finset.mem_filter.mpr ⟨Finset.mem_univ _, fun j => hk j (Finset.mem_univ _)⟩⟩
  have hm := (Finset.mem_filter.mp (s.min'_mem hs)).2
  refine ⟨s.min' hs, hm, fun j hj => lt_of_not_ge fun h => ?_⟩
  exact absurd hj (not_lt.mpr (s.min'_le j (Finset.mem_filter.mpr ⟨Finset.mem_univ _, fun i => h.trans (hm i)⟩)))

theorem FirstMin.inf_eq {n : ℕ} {f : Fin n → EReal} {k : Fin n} (h : FirstMin f k) : Finset.univ.inf f = f k :=
  le_antisymm (Finset.inf_le (Finset.mem_univ k)) (Finset.le_inf fun j _ => h.1 j)
theorem FirstMax.sup_eq {n : ℕ} {f : Fin n → EReal} {k : Fin n} (h : FirstMax f k) : Finset.univ.sup f = f k :=
  le_antisymm (Finset.sup_le fun j _ => h.1 j) (Finset.le_sup (Finset.mem_univ k))

/-- A first least position is kept by a monotone map that is strict above the least entry. -/
theorem FirstMin.map {n : ℕ} {f : Fin n → EReal} {k : Fin n} (h : FirstMin f k) (g : EReal → EReal) (hg : Monotone g)
    (hs : ∀ y, f k < y → g (f k) < g y) : FirstMin (fun i => g (f i)) k :=
  ⟨fun j => hg (h.1 j), fun j hj => hs _ (h.2 j hj)⟩

/-- The first greatest position of `f` is the first least one of `-f`. -/
theorem FirstMin.neg {n : ℕ} {f : Fin n → EReal} {k : Fin n} (h : FirstMin f k) : FirstMax (fun i => -f i) k :=
  ⟨fun j => EReal.neg_le_neg_iff.mpr (h.1 j), fun j hj => EReal.neg_lt_neg_iff.mpr (h.2 j hj)⟩
theorem FirstMax.neg {n : ℕ} {f : Fin n → EReal} {k : Fin n} (h : FirstMax f k) : FirstMin (fun i => -f i) k :=
  ⟨fun j => EReal.neg_le_neg_iff.mpr (h.1 j), fun j hj => EReal.neg_lt_neg_iff.mpr (h.2 j hj)⟩
theorem FirstMax.exists {n : ℕ} (hn : 0 < n) (f : Fin n → EReal) : ∃ k, FirstMax f k := by
  obtain ⟨k, hk⟩ := FirstMin.exists hn fun i => -f i
  exact ⟨k, by simpa using hk.neg⟩

/-- Square roots of numbers from zero up order as the numbers do, so the first greatest position is the same. -/
theorem FirstMax.sqrt {n : ℕ} {f : Fin n → EReal} {k : Fin n} (h : FirstMax f k) (hf : ∀ i, 0 ≤ f i) :
    FirstMax (fun i => Ideal.sqrt (f i)) k :=
  ⟨fun j => sqrt_le_sqrt (hf j) (h.1 j), fun j hj => sqrt_lt_sqrt (hf j) (h.2 j hj)⟩

/-! ## The squared distance -/

/-- The squared distance of two rows, as the sum of their squared norms less twice their product. -/
def sqd {n : ℕ} (x b : Fin n → EReal) : EReal := ((∑ i, x i * x i) + ∑ i, b i * b i) - 2 * ∑ i, x i * b i

end Cert.Model

end
-- ==== Proof.Words.lean ====
/- Positions as 32-bit words: the least word of those that pass a test, as the kernel searches for a first position, and a sum that picks
   one entry. -/
module

public import proofs.«01_k».proof.Proof.Model
public import Idealize.ShloMosaic.Lib.WordCmp
public import Idealize.ShloMosaic.Lib.Pointwise

@[expose] public section

noncomputable section

namespace Cert.Model

open Idealize.ShloMosaic

theorem bits_top : Ideal.ofBits .f32 2139095040#32 = ⊤ := by simp [Ideal.ofBits, Ideal.ieee]
theorem bits_bot : Ideal.ofBits .f32 4286578688#32 = ⊥ := by simp [Ideal.ofBits, Ideal.ieee]
theorem bits_two : Ideal.ofBits .f32 1073741824#32 = 2 := by
  rw [show (2 : EReal) = ((2 : ℝ) : EReal) by norm_cast]
  simp [Ideal.ofBits, Ideal.ieee, -EReal.coe_mul]; norm_num

theorem toInt_word {n : ℕ} (h : n < 2 ^ 31) : (BitVec.ofNat 32 n).toInt = n := by
  rw [BitVec.toInt_eq_toNat_of_lt (by rw [BitVec.toNat_ofNat]; omega), BitVec.toNat_ofNat]
  omega

theorem minsi_cases (a b : BitVec 32) : (IntOp.minsi a b = a ∧ a.toInt ≤ b.toInt) ∨ (IntOp.minsi a b = b ∧ b.toInt ≤ a.toInt) := by
  unfold IntOp.minsi
  by_cases h : a.slt b
  · rw [if_pos h]; exact .inl ⟨rfl, (BitVec.slt_iff_toInt_lt.mp h).le⟩
  · rw [if_neg h]; exact .inr ⟨rfl, not_lt.mp fun h' => h (BitVec.slt_iff_toInt_lt.mpr h')⟩

/-- A fold of the signed minimum is its start or one of the words folded over. -/
theorem fold_minsi_mem {ι : Type} (s : Finset ι) (b : BitVec 32) (g : ι → BitVec 32) :
    s.fold IntOp.minsi b g = b ∨ ∃ i ∈ s, s.fold IntOp.minsi b g = g i := by
  induction s using Finset.cons_induction with
  | empty => exact .inl rfl
  | cons a s ha ih =>
    rw [Finset.fold_cons]
    rcases minsi_cases (g a) (s.fold IntOp.minsi b g) with ⟨e, -⟩ | ⟨e, -⟩
    · exact .inr ⟨a, Finset.mem_cons_self a s, e⟩
    · rw [e]
      rcases ih with h | ⟨i, hi, h⟩
      · exact .inl h
      · exact .inr ⟨i, Finset.mem_cons_of_mem hi, h⟩

/-- A fold of the signed minimum is at most each word folded over. -/
theorem fold_minsi_le {ι : Type} (s : Finset ι) (b : BitVec 32) (g : ι → BitVec 32) (i : ι) (hi : i ∈ s) :
    (s.fold IntOp.minsi b g).toInt ≤ (g i).toInt := by
  induction s using Finset.cons_induction with
  | empty => exact absurd hi (by simp)
  | cons a s ha ih =>
    rw [Finset.fold_cons]
    rcases minsi_cases (g a) (s.fold IntOp.minsi b g) with ⟨e, h⟩ | ⟨e, h⟩ <;> rw [e] <;> rcases Finset.mem_cons.mp hi with rfl | h'
    · exact le_rfl
    · exact h.trans (ih h')
    · exact h
    · exact ih h'

/-- The least of the numbers whose entry passes a test, those that fail standing at 2³⁰: the number of the first entry that passes. -/
theorem fold_minsi_first {ι : Type} [Fintype ι] (p : ι → Prop) [DecidablePred p] (num : ι → ℕ) (k : ι) (hk : p k)
    (hlt : ∀ i, num i < 2 ^ 30) (hmin : ∀ i, p i → num k ≤ num i) :
    (Finset.univ.fold IntOp.minsi 2147483647#32 fun i => if p i then BitVec.ofNat 32 (num i) else 1073741824#32) = BitVec.ofNat 32 (num k) := by
  have hle := fold_minsi_le Finset.univ 2147483647#32 (fun i => if p i then BitVec.ofNat 32 (num i) else 1073741824#32) k (Finset.mem_univ k)
  have hkk := hlt k
  simp only [if_pos hk] at hle
  rw [toInt_word (by omega)] at hle
  rcases fold_minsi_mem Finset.univ 2147483647#32 (fun i => if p i then BitVec.ofNat 32 (num i) else 1073741824#32) with h | ⟨i, -, h⟩
  · rw [h] at hle
    have : (2147483647#32 : BitVec 32).toInt = 2147483647 := by decide
    omega
  · rw [h] at hle ⊢
    have hi := hlt i
    by_cases hp : p i
    · rw [if_pos hp, toInt_word (by omega)] at hle
      have := hmin i hp
      rw [if_pos hp, show num i = num k by omega]
    · rw [if_neg hp] at hle
      have : (1073741824#32 : BitVec 32).toInt = 1073741824 := by decide
      omega

/-- The position of the first least entry, as the kernel searches for it. -/
theorem first_min_word {n : ℕ} (hn : n ≤ 2 ^ 30) (f : Fin n → EReal) (k : Fin n) (h : FirstMin f k) (c : EReal) (hc : c = f k) :
    (Finset.univ.fold IntOp.minsi 2147483647#32 fun x : Fin n => if f x = c then BitVec.ofNat 32 x.val else 1073741824#32)
      = BitVec.ofNat 32 k.val :=
  fold_minsi_first (fun x => f x = c) (fun x : Fin n => x.val) k hc.symm (fun i => i.isLt.trans_le hn)
    fun i hi => not_lt.mp fun hlt => (h.2 i hlt).ne (by rw [hi, hc])

/-- A test of one word against another that passes at one position only picks that position's entry out of a sum. -/
theorem sum_select_word {n : ℕ} (hn : n ≤ 2 ^ 30) (k : Fin n) (f : Fin n → EReal) :
    (∑ x : Fin n, Scalar.select (IntOp.cmpi .eq (BitVec.ofNat 32 x.val) (BitVec.ofNat 32 k.val)) (f x) 0) = f k := by
  rw [Finset.sum_eq_single k]
  · rw [WordCmp.cmpi_eq_eq]; simp [Scalar.select]
  · intro x _ hx
    rw [WordCmp.cmpi_eq_eq, decide_eq_false]
    · simp [Scalar.select]
    · intro e
      have h1 := congrArg BitVec.toNat e
      rw [BitVec.toNat_ofNat, BitVec.toNat_ofNat, Nat.mod_eq_of_lt (by omega), Nat.mod_eq_of_lt (by omega)] at h1
      exact hx (Fin.ext h1)
  · intro h; exact absurd (Finset.mem_univ k) h

/-! ## Reductions of a table -/

/-- Row `r` of a table. -/
def row {n0 n1 : ℕ} (v : FVec Ideal ⟨2, ![n0, n1]⟩ .f32) (r : Fin n0) : Fin n1 → EReal := fun k => v (ix2 r k)

/-- The least entry of a row, as the kernel reduces for it. -/
theorem row_min {n0 n1 : ℕ} (v : FVec Ideal ⟨2, ![n0, n1]⟩ .f32) (h : (⟨2, ![n0, n1]⟩ : Shape).Reduces [1] ⟨1, ![n0]⟩) (hφ) (hacc) (r : Fin n0) :
    multiReduction .minimumf [1] ⟨1, ![n0]⟩ v 0x7F800000#32 h hφ hacc (ix1 r) = Finset.univ.inf fun k : Fin n1 => v (ix2 r k) := by
  rw [multiReduction_minimumf_eq_fold, Shape.Reduces.fold_fiber_r2_a1]
  exact congrArg (fun b => (Finset.univ : Finset (Fin n1)).fold min b fun k => v (ix2 r k)) bits_top

/-- The least word of a row. -/
theorem row_minsi {n0 n1 : ℕ} (v : IVec ⟨2, ![n0, n1]⟩ 32) (h : (⟨2, ![n0, n1]⟩ : Shape).Reduces [1] ⟨1, ![n0]⟩) (hacc) (r : Fin n0) :
    multiReductionI .minsi [1] ⟨1, ![n0]⟩ v 2147483647#32 h hacc (ix1 r) = Finset.univ.fold IntOp.minsi 2147483647#32 fun k : Fin n1 => v (ix2 r k) := by
  rw [multiReductionI_eq_fold, Shape.Reduces.fold_fiber_r2_a1]
  rfl

/-- The greatest entry of a square laid out in a block. -/
theorem block_max {n m : ℕ} (v : FVec Ideal ⟨3, ![1, n, m]⟩ .f32) (h : (⟨3, ![1, n, m]⟩ : Shape).Reduces [1, 2] ⟨1, ![1]⟩) (hφ) (hacc) :
    multiReduction .maximumf [1, 2] ⟨1, ![1]⟩ v 0xFF800000#32 h hφ hacc (ix1 0) = Finset.univ.sup fun k : Fin n × Fin m => v (ix3 0 k.1 k.2) := by
  rw [multiReduction_maximumf_eq_fold, Shape.Reduces.fold_fiber_r3_a12]
  exact congrArg (fun b => (Finset.univ : Finset (Fin n × Fin m)).fold max b fun k => v (ix3 0 k.1 k.2)) bits_bot

/-- The greatest entry of a column laid out in a block, as the kernel reduces for it. -/
theorem column_max {n : ℕ} (v : FVec Ideal ⟨3, ![1, n, 1]⟩ .f32) (h : (⟨3, ![1, n, 1]⟩ : Shape).Reduces [1, 2] ⟨1, ![1]⟩) (hφ) (hacc) :
    multiReduction .maximumf [1, 2] ⟨1, ![1]⟩ v 0xFF800000#32 h hφ hacc (ix1 0) = Finset.univ.sup fun k : Fin n × Fin 1 => v (ix3 0 k.1 k.2) := by
  rw [multiReduction_maximumf_eq_fold, Shape.Reduces.fold_fiber_r3_a12]
  exact congrArg (fun b => (Finset.univ : Finset (Fin n × Fin 1)).fold max b fun k => v (ix3 0 k.1 k.2)) bits_bot

/-- The least word of a column laid out in a block. -/
theorem column_minsi {n : ℕ} (v : IVec ⟨3, ![1, n, 1]⟩ 32) (h : (⟨3, ![1, n, 1]⟩ : Shape).Reduces [1, 2] ⟨1, ![1]⟩) (hacc) :
    multiReductionI .minsi [1, 2] ⟨1, ![1]⟩ v 2147483647#32 h hacc (ix1 0)
      = Finset.univ.fold IntOp.minsi 2147483647#32 fun k : Fin n × Fin 1 => v (ix3 0 k.1 k.2) := by
  rw [multiReductionI_eq_fold, Shape.Reduces.fold_fiber_r3_a12]
  rfl

end Cert.Model

end
-- ==== Proof.Read0.lean ====
/- What the first call's two results hold, over the extended reals: each patch's least squared distance, clamped below at zero, and the
   patch whose least squared distance is the greatest. -/
module

public import proofs.«01_k».proof.Proof.Words
public import proofs.«01_k».proof.Proof.Region0
public import Idealize.ShloMosaic.Lib.IdealHost

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic

variable (X : FVec Ideal S3136x1152 .f32) (B : FVec Ideal S16384x1152 .f32)

/-- Patch `r`'s least squared distance to the library. -/
def nearest (r : Fin 3136) : EReal := Finset.univ.inf fun k : Fin 16384 => sqd (row X r) (row B k)

/-- The library row at lane `c` of block `n`. -/
def lane (n : ℕ) (c : Fin 512) : Fin 16384 := ⟨n % 32 * 512 + c.val, by have := c.isLt; have := Nat.mod_lt n (show 0 < 32 by decide); omega⟩

theorem libBlock_row (n : ℕ) (c : Fin 512) : row (libBlock (F := Ideal) B n) c = row B (lane n c) := rfl

theorem pay1_apply (r : Fin 3136) (c : Fin 1) : k0_pay1 (F := Ideal) X (ix2 r c) = ∑ x, row X r x * row X r x := by
  pointwise [k0_pay1]
  rfl

theorem pay2_apply (r : Fin 3136) (c : Fin 512) : (k0_pay2 : FVec Ideal S3136x512 .f32) (ix2 r c) = ⊤ := by
  rw [← bits_top]
  pointwise [k0_pay2]
  try rfl

/-- One block's entries put in: the lesser of what was there and the new squared distance. -/
theorem pay3_apply (b : FVec Ideal S512x1152 .f32) (a : FVec Ideal S3136x512 .f32) (r : Fin 3136) (c : Fin 512) :
    k0_pay3 (F := Ideal) X b (k0_pay1 (F := Ideal) X) a (ix2 r c) = min (sqd (row X r) (row b c)) (a (ix2 r c)) := by
  have h : k0_pay3 (F := Ideal) X b (k0_pay1 (F := Ideal) X) a (ix2 r c)
      = if k0_pay1 (F := Ideal) X (ix2 r 0) + ∑ x, b (ix2 c x) * b (ix2 c x) - Ideal.ofBits .f32 1073741824#32 * ∑ x, X (ix2 r x) * b (ix2 c x) < a (ix2 r c)
        then k0_pay1 (F := Ideal) X (ix2 r 0) + ∑ x, b (ix2 c x) * b (ix2 c x) - Ideal.ofBits .f32 1073741824#32 * ∑ x, X (ix2 r x) * b (ix2 c x)
        else a (ix2 r c) := by
    generalize k0_pay1 (F := Ideal) X = q
    pointwise [k0_pay3]
    try rfl
  rw [h, pay1_apply, bits_two]
  change (if sqd (row X r) (row b c) < a (ix2 r c) then sqd (row X r) (row b c) else a (ix2 r c)) = _
  split_ifs with h1
  · exact (min_eq_left h1.le).symm
  · exact (min_eq_right (not_lt.mp h1)).symm

/-- After `n` blocks a lane holds the least squared distance to that lane's rows of those blocks. -/
theorem minAfter_apply (n : ℕ) (r : Fin 3136) (c : Fin 512) :
    minAfter (F := Ideal) X B n (ix2 r c) = (Finset.range n).inf fun k => sqd (row X r) (row B (lane k c)) := by
  induction n with
  | zero => exact pay2_apply r c
  | succ n ih =>
    show k0_pay3 (F := Ideal) X (libBlock (F := Ideal) B n) (k0_pay1 (F := Ideal) X) (minAfter (F := Ideal) X B n) (ix2 r c) = _
    rw [pay3_apply, ih, Finset.range_add_one, Finset.inf_insert, libBlock_row]

/-- The least over the lanes is the least over the whole library. -/
theorem inf_lanes (r : Fin 3136) : (Finset.univ.inf fun c : Fin 512 => minAfter (F := Ideal) X B 32 (ix2 r c)) = nearest X B r := by
  refine le_antisymm (Finset.le_inf fun k _ => ?_) (Finset.le_inf fun c _ => ?_)
  · have hk := k.isLt
    refine (Finset.inf_le (Finset.mem_univ (⟨k.val % 512, Nat.mod_lt _ (by decide)⟩ : Fin 512))).trans ?_
    rw [minAfter_apply]
    refine (Finset.inf_le (Finset.mem_range.mpr (show k.val / 512 < 32 by omega))).trans (le_of_eq ?_)
    rw [show lane (k.val / 512) ⟨k.val % 512, Nat.mod_lt _ (by decide)⟩ = k from Fin.ext (by
      show k.val / 512 % 32 * 512 + k.val % 512 = k.val
      omega)]
  · rw [minAfter_apply]
    exact Finset.le_inf fun n _ => Finset.inf_le (Finset.mem_univ (lane n c))

/-- The reduction of the lanes, clamped below at zero. -/
theorem pay4_apply (a : FVec Ideal S3136x512 .f32) (r : Fin 3136) (c : Fin 1) :
    k0_pay4 (F := Ideal) a (ix2 r c) = max (Finset.univ.inf fun k : Fin 512 => a (ix2 r k)) 0 := by
  have h := row_min a reduces_S3136x512_S3136 (.inl rfl) rfl r
  rw [← h]
  unfold k0_pay4
  generalize multiReduction .minimumf [1] S3136 a 0x7F800000#32 reduces_S3136x512_S3136 (.inl rfl) rfl = v
  pointwise []
  try rfl

theorem minOut_apply (r : Fin 3136) (c : Fin 1) : minOut (F := Ideal) X B (ix2 r c) = max (nearest X B r) 0 := by
  unfold minOut
  rw [pay4_apply, inf_lanes]

end Cert.KernelIdeal.Hand

end
-- ==== Proof.Read1.lean ====
/- What the second and third calls compute from a row of squared distances, over the extended reals: the row itself, the first least
   entry, the three first least entries one after another, and the score made from them. -/
module

public import proofs.«01_k».proof.Proof.Words
public import proofs.«01_k».proof.Proof.Read0
public import proofs.«01_k».proof.Proof.Rows

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic

/-! ## The row of squared distances -/

theorem k1_pay1_apply (x : FVec Ideal S1x1152 .f32) (b : FVec Ideal S512x1152 .f32) (c : Fin 512) :
    k1_pay1 (F := Ideal) x b (ix2 0 c) = sqd (row x 0) (row b c) := by
  have h : k1_pay1 (F := Ideal) x b (ix2 0 c)
      = ∑ k, x (ix2 0 k) * x (ix2 0 k) + ∑ k, b (ix2 c k) * b (ix2 c k) - Ideal.ofBits .f32 1073741824#32 * ∑ k, x (ix2 0 k) * b (ix2 c k) := by
    pointwise [k1_pay1]
    try simp only [pow_two]
    try rfl
  rw [h, bits_two]
  rfl

theorem rowOf_apply (x : FVec Ideal S1x1152 .f32) (B : FVec Ideal S16384x1152 .f32) (k : Fin 16384) :
    rowOf (F := Ideal) x B (ix2 0 k) = sqd (row x 0) (row B k) := by
  show k1_pay1 (F := Ideal) x (libBlock (F := Ideal) B (k.val / 512)) (ix2 0 ⟨k.val % 512, Nat.mod_lt _ (by decide)⟩) = _
  rw [k1_pay1_apply, libBlock_row]
  have hk := k.isLt
  congr 2
  exact Fin.ext (by show k.val / 512 % 32 * 512 + k.val % 512 = k.val; omega)

/-! ## The first least entry -/

/-- The least entry of a row. -/
def leastOf (v : FVec Ideal S1x16384 .f32) : FVec Ideal S1x1 .f32 :=
  shapeCast S1x1 (multiReduction .minimumf [1] S1 v 0x7F800000#32 reduces_S1x16384_S1 (.inl rfl) rfl) shapeCasts_S1_S1x1

/-- The positions of the entries of `v` that equal `M`, the others standing at 2³⁰. -/
def markedRow (v : FVec Ideal S1x16384 .f32) (M : FVec Ideal S1x1 .f32) : IVec S1x16384 32 :=
  select (cmpf .oeq v (broadcastTo S1x16384 M broadcasts_S1x1_S1x16384)) (iota .tc S1x16384 32 [1] iota_S1x16384_d1_w32) (broadcast S1x16384 1073741824#32)

/-- The least word of a row. -/
def leastWordOf (v : IVec S1x16384 32) : IVec S1x1 32 :=
  shapeCast S1x1 (multiReductionI .minsi [1] S1 v 2147483647#32 reduces_S1x16384_S1 rfl) shapeCasts_S1_S1x1

/-- The position of the first least entry, as a word. -/
def firstWord (v : FVec Ideal S1x16384 .f32) : IVec S1x1 32 := leastWordOf (markedRow v (leastOf v))

theorem cast_apply {α : Type} (v : S1.Idx → α) : shapeCast S1x1 v shapeCasts_S1_S1x1 (ix2 0 0) = v (ix1 0) := by
  pointwise []

theorem leastOf_apply (v : FVec Ideal S1x16384 .f32) : leastOf v (ix2 0 0) = Finset.univ.inf fun k : Fin 16384 => v (ix2 0 k) := by
  unfold leastOf
  rw [cast_apply]
  exact row_min v reduces_S1x16384_S1 (.inl rfl) rfl 0

theorem markedRow_apply (v : FVec Ideal S1x16384 .f32) (M : FVec Ideal S1x1 .f32) (x : Fin 16384) :
    markedRow v M (ix2 0 x) = if v (ix2 0 x) = M (ix2 0 0) then BitVec.ofNat 32 x.val else 1073741824#32 := by
  pointwise [markedRow]

theorem firstWord_apply (v : FVec Ideal S1x16384 .f32) (k : Fin 16384) (hk : FirstMin (fun x : Fin 16384 => v (ix2 0 x)) k) :
    firstWord v (ix2 0 0) = BitVec.ofNat 32 k.val := by
  unfold firstWord leastWordOf
  rw [cast_apply]
  refine (row_minsi (markedRow v (leastOf v)) reduces_S1x16384_S1 rfl 0).trans ?_
  simp only [markedRow_apply]
  exact first_min_word (by norm_num) (fun x : Fin 16384 => v (ix2 0 x)) k hk _ ((leastOf_apply v).trans hk.inf_eq)

theorem k1_pay2_apply (v : FVec Ideal S1x16384 .f32) (k : Fin 16384) (hk : FirstMin (fun x : Fin 16384 => v (ix2 0 x)) k) :
    k1_pay2 (F := Ideal) v (ix2 0 0) = BitVec.ofNat 32 k.val := by
  rw [← firstWord_apply v k hk]
  unfold k1_pay2 firstWord leastWordOf markedRow leastOf
  rfl

/-! ## The three picks -/

/-- `v` with the entry whose number is `w` set to `+∞`. -/
def struck (v : FVec Ideal S1x16384 .f32) (w : IVec S1x1 32) : FVec Ideal S1x16384 .f32 :=
  select (cmpi .eq (iota .tc S1x16384 32 [1] iota_S1x16384_d1_w32) (broadcastTo S1x16384 w broadcasts_S1x1_S1x16384))
    (broadcast S1x16384 (Scalar.ofBits .f32 0x7F800000#32)) v

theorem word_eq_iff (x k : Fin 16384) : IntOp.cmpi .eq (BitVec.ofNat 32 x.val) (BitVec.ofNat 32 k.val) = BitVec.ofBool (decide (x = k)) := by
  rw [WordCmp.cmpi_eq_eq]
  congr 1
  refine decide_eq_decide.mpr ⟨fun e => ?_, fun e => by rw [e]⟩
  have h1 := congrArg BitVec.toNat e
  have := x.isLt
  have := k.isLt
  rw [BitVec.toNat_ofNat, BitVec.toNat_ofNat, Nat.mod_eq_of_lt (by omega), Nat.mod_eq_of_lt (by omega)] at h1
  exact Fin.ext h1

theorem struck_apply (v : FVec Ideal S1x16384 .f32) (w : IVec S1x1 32) (k : Fin 16384) (hw : w (ix2 0 0) = BitVec.ofNat 32 k.val) (x : Fin 16384) :
    struck v w (ix2 0 x) = if x = k then ⊤ else v (ix2 0 x) := by
  have h : struck v w (ix2 0 x) = Scalar.select (IntOp.cmpi .eq (BitVec.ofNat 32 x.val) (w (ix2 0 0))) (Ideal.ofBits .f32 2139095040#32) (v (ix2 0 x)) := by
    pointwise [struck]
    try rfl
  rw [h, hw, word_eq_iff, bits_top]
  by_cases e : x = k
  · rw [if_pos e, decide_eq_true e]; rfl
  · rw [if_neg e, decide_eq_false e]; rfl

/-- `v` clamped below at zero. -/
def clamped (v : FVec Ideal S1x16384 .f32) : FVec Ideal S1x16384 .f32 := maximumf v (broadcast S1x16384 (Scalar.ofBits .f32 0x00000000#32))

theorem clamped_apply (v : FVec Ideal S1x16384 .f32) (x : Fin 16384) : clamped v (ix2 0 x) = max (v (ix2 0 x)) 0 := by
  pointwise [clamped]

theorem pick1_eq (v : FVec Ideal S1x16384 .f32) : k2_pay4 (F := Ideal) v = struck (clamped v) (firstWord (clamped v)) := by
  unfold k2_pay4 struck firstWord leastWordOf markedRow leastOf clamped
  rfl
theorem pick2_eq (v : FVec Ideal S1x16384 .f32) : k2_pay5 (F := Ideal) v = firstWord (k2_pay4 (F := Ideal) v) := by
  unfold k2_pay5 firstWord leastWordOf markedRow leastOf
  rfl
theorem pick3_eq (v : FVec Ideal S1x16384 .f32) : k2_pay6 (F := Ideal) v = firstWord (struck (k2_pay4 (F := Ideal) v) (k2_pay5 (F := Ideal) v)) := by
  unfold k2_pay6 struck firstWord leastWordOf markedRow leastOf
  rfl

/-- `a`, `b`, `c` are picked one after another from `f`, each the first least of what the earlier picks leave, a picked entry standing at `+∞`. -/
structure Picks {n : ℕ} (f : Fin n → EReal) (a b c : Fin n) : Prop where
  first : FirstMin f a
  second : FirstMin (fun x => if x = a then ⊤ else f x) b
  third : FirstMin (fun x => if x = b then ⊤ else if x = a then ⊤ else f x) c

variable (w tr : FVec Ideal S1x16384 .f32) (i j k : Fin 16384) (h : Picks (fun x : Fin 16384 => max (w (ix2 0 x)) 0) i j k)
include h

theorem pay4_row (x : Fin 16384) : k2_pay4 (F := Ideal) w (ix2 0 x) = if x = i then ⊤ else max (w (ix2 0 x)) 0 := by
  rw [pick1_eq, struck_apply _ _ i (firstWord_apply _ i (by simpa only [clamped_apply] using h.first)), clamped_apply]

theorem pay5_word : k2_pay5 (F := Ideal) w (ix2 0 0) = BitVec.ofNat 32 j.val := by
  rw [pick2_eq]
  exact firstWord_apply _ j (by simpa only [pay4_row w i j k h] using h.second)

theorem pay6_word : k2_pay6 (F := Ideal) w (ix2 0 0) = BitVec.ofNat 32 k.val := by
  rw [pick3_eq]
  exact firstWord_apply _ k (by simpa only [struck_apply _ _ j (pay5_word w i j k h), pay4_row w i j k h] using h.third)

theorem pay7_row (x : Fin 16384) : k2_pay7 (F := Ideal) w tr (ix2 0 x)
    = Scalar.select (IntOp.cmpi CmpIPredicate.eq (BitVec.ofNat 32 x.val) (BitVec.ofNat 32 j.val)) (tr (ix2 0 x)) 0 := by
  rw [← pay5_word w i j k h]
  unfold k2_pay7
  generalize k2_pay5 (F := Ideal) w = q
  pointwise [k2_pay3]

end Cert.KernelIdeal.Hand

end
-- ==== Proof.Far.lean ====
/- The patch the first call picks: the first whose least squared distance, clamped below at zero, is the greatest. -/
module

public import proofs.«01_k».proof.Proof.Words
public import proofs.«01_k».proof.Proof.Gen.KernelIdeal.Skeleton

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic

theorem block_apply {α : Type} (v : S3136x1.Idx → α) (k : Fin 3136 × Fin 1) :
    shapeCast S1x3136x1 v shapeCasts_S3136x1_S1x3136x1 (ix3 0 k.1 k.2) = v (ix2 k.1 0) := by
  obtain ⟨r, z⟩ := k
  obtain rfl : z = 0 := Subsingleton.elim _ _
  pointwise []

theorem extract_apply {α : Type} (v : S1.Idx → α) : extractAt ![0, 0, 0] (shapeCast S1x1x1 v shapeCasts_S1_S1x1x1) inpos_S1x1x1_p0_0_0 = v (ix1 0) := by
  pointwise []

/-- The greatest entry of the column `u`. -/
def greatest (u : FVec Ideal S3136x1 .f32) : EReal :=
  extractAt ![0, 0, 0] (shapeCast S1x1x1 (multiReduction .maximumf [1, 2] S1 (shapeCast S1x3136x1 u shapeCasts_S3136x1_S1x3136x1) 0xFF800000#32
    reduces_S1x3136x1_S1 (.inl rfl) rfl) shapeCasts_S1_S1x1x1) inpos_S1x1x1_p0_0_0

theorem greatest_eq (u : FVec Ideal S3136x1 .f32) (k : Fin 3136) (hk : FirstMax (fun r : Fin 3136 => u (ix2 r 0)) k) : greatest u = u (ix2 k 0) := by
  unfold greatest
  rw [extract_apply]
  refine (column_max (n := 3136) _ _ _ _).trans ?_
  simp only [block_apply]
  refine le_antisymm (Finset.sup_le fun i _ => hk.1 i.1) ?_
  have h := Finset.le_sup (f := fun i : Fin 3136 × Fin 1 => u (ix2 i.1 0)) (Finset.mem_univ ((k, 0) : Fin 3136 × Fin 1))
  exact h

/-- The numbers of the entries of `u` that equal `M`, the others standing at 2³⁰. -/
def marked (u : FVec Ideal S3136x1 .f32) (M : Ideal .f32) : IVec S3136x1 32 :=
  select (cmpf .oeq u (broadcastTo S3136x1 (broadcast S1x1 M) broadcasts_S1x1_S3136x1)) (iota .tc S3136x1 32 [0] iota_S3136x1_d0_w32)
    (broadcast S3136x1 1073741824#32)

theorem marked_apply (u : FVec Ideal S3136x1 .f32) (M : Ideal .f32) (r : Fin 3136) :
    marked u M (ix2 r 0) = if u (ix2 r 0) = M then BitVec.ofNat 32 r.val else 1073741824#32 := by
  pointwise [marked]

/-- The least word of a column. -/
def leastWord (v : IVec S3136x1 32) : BitVec 32 :=
  extractAt ![0, 0, 0] (shapeCast S1x1x1 (multiReductionI .minsi [1, 2] S1 (shapeCast S1x3136x1 v shapeCasts_S3136x1_S1x3136x1) 2147483647#32
    reduces_S1x3136x1_S1 rfl) shapeCasts_S1_S1x1x1) inpos_S1x1x1_p0_0_0

theorem leastWord_eq (u : FVec Ideal S3136x1 .f32) (k : Fin 3136) (hk : FirstMax (fun r : Fin 3136 => u (ix2 r 0)) k) :
    leastWord (marked u (greatest u)) = BitVec.ofNat 32 k.val := by
  unfold leastWord
  rw [extract_apply]
  refine (column_minsi (n := 3136) _ _ _).trans ?_
  simp only [block_apply, marked_apply, greatest_eq u k hk]
  exact fold_minsi_first (fun i : Fin 3136 × Fin 1 => u (ix2 i.1 0) = u (ix2 k 0)) (fun i => i.1.val) (k, 0) rfl
    (fun i => i.1.isLt.trans (by norm_num)) fun i hi => not_lt.mp fun hlt => (hk.2 i.1 hlt).ne hi

/-- The row whose number is the word `w`. -/
def rowAt (X : FVec Ideal S3136x1152 .f32) (w : BitVec 32) : FVec Ideal S1x1152 .f32 :=
  shapeCast S1x1152 (multiReduction .add [0] S1152 (select (broadcastTo S3136x1152 (shapeCast S3136x1 (cmpi .eq (iota .tc S3136x1 32 [0] iota_S3136x1_d0_w32)
    (broadcastTo S3136x1 (broadcast S1x1 w) broadcasts_S1x1_S3136x1)) shapeCasts_S3136x1_S3136x1) broadcasts_S3136x1_S3136x1152) X
    (broadcast S3136x1152 (Scalar.ofBits .f32 0x00000000#32))) 0x00000000#32 reduces_S3136x1152_S1152 (.inl rfl) rfl) shapeCasts_S1152_S1x1152

theorem rowAt_apply (X : FVec Ideal S3136x1152 .f32) (w : BitVec 32) (c : Fin 1152) :
    rowAt X w (ix2 0 c) = ∑ x : Fin 3136, Scalar.select (IntOp.cmpi CmpIPredicate.eq (BitVec.ofNat 32 x.val) w) (X (ix2 x c)) 0 := by
  pointwise [rowAt]

theorem pay5_eq (X : FVec Ideal S3136x1152 .f32) (a : FVec Ideal S3136x512 .f32) :
    k0_pay5 (F := Ideal) X a = rowAt X (leastWord (marked (k0_pay4 (F := Ideal) a) (greatest (k0_pay4 (F := Ideal) a)))) := by
  unfold k0_pay5 rowAt leastWord marked greatest
  rfl

/-- The patch picked is the first whose least squared distance, clamped, is the greatest. -/
theorem pay5_apply (X : FVec Ideal S3136x1152 .f32) (a : FVec Ideal S3136x512 .f32) (k : Fin 3136)
    (hk : FirstMax (fun r : Fin 3136 => k0_pay4 (F := Ideal) a (ix2 r 0)) k) (c : Fin 1152) : k0_pay5 (F := Ideal) X a (ix2 0 c) = X (ix2 k c) := by
  rw [pay5_eq, leastWord_eq _ k hk, rowAt_apply, sum_select_word (by norm_num) k fun x => X (ix2 x c)]

end Cert.KernelIdeal.Hand

end
-- ==== Proof.Read2.lean ====
/- The score and the map of the third call, and the patch picked by the first, over the extended reals. -/
module

public import proofs.«01_k».proof.Proof.Read1
public import proofs.«01_k».proof.Proof.Far

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic

/-- The patch the first call picks is the first whose clamped least squared distance is the greatest. -/
theorem farOut_apply (X : FVec Ideal S3136x1152 .f32) (B : FVec Ideal S16384x1152 .f32) (k : Fin 3136)
    (hk : FirstMax (fun r : Fin 3136 => max (nearest X B r) 0) k) : row (farOut (F := Ideal) X B) 0 = row X k := by
  funext c
  refine pay5_apply X (minAfter (F := Ideal) X B 32) k ?_ c
  have e : (fun r : Fin 3136 => k0_pay4 (F := Ideal) (minAfter (F := Ideal) X B 32) (ix2 r 0)) = fun r => max (nearest X B r) 0 :=
    funext fun r => minOut_apply X B r 0
  rw [e]
  exact hk

/-- The score as a function of the greatest nearest distance `s` and of two distances. -/
def score (s a b : EReal) : EReal :=
  (1 - Ideal.div (Ideal.exp (Ideal.div s (Scalar.sqrt (F := Ideal) (φ := .f32) (Ideal.ofBits .f32 1150287872#32))))
    (Ideal.exp (Ideal.div a (Scalar.sqrt (F := Ideal) (φ := .f32) (Ideal.ofBits .f32 1150287872#32)))
      + Ideal.exp (Ideal.div b (Scalar.sqrt (F := Ideal) (φ := .f32) (Ideal.ofBits .f32 1150287872#32))))) * s

theorem pay9_apply (a : FVec Ideal S1x16384 .f32) (b : IVec S1x16384 32) (c : IVec S1x1 32) (e : FVec Ideal S1x16384 .f32) (mn : FVec Ideal S56x56 .f32) :
    k2_pay9 (F := Ideal) a b c e mn (ix2 0 0)
      = score (Ideal.sqrt (Finset.univ.sup fun x : Fin 56 × Fin 56 => mn (ix2 x.1 x.2))) (root (∑ x : Fin 16384, e (ix2 0 x)))
          (root (∑ x : Fin 16384, Scalar.select (IntOp.cmpi CmpIPredicate.eq (b (ix2 0 x)) (c (ix2 0 0))) (a (ix2 0 x)) 0)) := by
  unfold score root
  rw [← fold_max_eq_sup, ← bits_bot]
  pointwise [k2_pay9, k2_pay8]
  try rfl

/-- The score, from the rows of squared distances `w` and `tr`, where `w`'s second and third picks are `j` and `k`. -/
theorem scoreOf_apply (w tr : FVec Ideal S1x16384 .f32) (mn : FVec Ideal S56x56 .f32) (i j k : Fin 16384)
    (h : Picks (fun x : Fin 16384 => max (w (ix2 0 x)) 0) i j k) :
    scoreOf (F := Ideal) w tr mn (ix2 0 0)
      = score (Ideal.sqrt (Finset.univ.sup fun x : Fin 56 × Fin 56 => mn (ix2 x.1 x.2))) (root (tr (ix2 0 j))) (root (tr (ix2 0 k))) := by
  have e3 : ∀ x : Fin 16384, k2_pay3 (F := Ideal) tr (ix2 0 x) = tr (ix2 0 x) := fun x => by pointwise [k2_pay3]
  have ei : ∀ x : Fin 16384, iota .tc S1x16384 32 [1] iota_S1x16384_d1_w32 (ix2 0 x) = BitVec.ofNat 32 x.val := fun x => by pointwise []
  unfold scoreOf
  rw [pay9_apply]
  simp only [e3, ei, pay6_word w i j k h, pay7_row w tr i j k h]
  rw [sum_select_word (by norm_num) j fun x => tr (ix2 0 x), sum_select_word (by norm_num) k fun x => tr (ix2 0 x)]

/-- The map: the roots of the minima between the two matrices of weights. -/
theorem mapOf_apply (mn : FVec Ideal S56x56 .f32) (rm : FVec Ideal S224x56 .f32) (rt : FVec Ideal S56x224 .f32) (i j : Fin 224) :
    mapOf (F := Ideal) mn rm rt (ix2 i j) = ∑ x, (∑ y, rm (ix2 i y) * Ideal.sqrt (mn (ix2 y x))) * rt (ix2 x j) := by
  unfold mapOf
  pointwise [k2_pay2, k2_pay10, k2_pay8]
  try rfl

end Cert.KernelIdeal.Hand

end
-- ==== Proof.Weights.lean ====
/- The weights of the bilinear enlargement, 56 to 224 along one axis: the tent over the sample's distance, divided by the tents' total. The
   total is never zero, and no sample lies beyond the edges. -/
module

public import proofs.«01_k».proof.Proof.Words
public import Idealize.ShloMosaic.Lib.IdealHost

@[expose] public section

noncomputable section

namespace Cert.Model

open Idealize.ShloMosaic

/-! ## Constants and reals inside the extended reals -/

theorem bits_half : Ideal.ofBits .f32 1056964608#32 = ((1 / 2 : ℝ) : EReal) := by
  simp [Ideal.ofBits, Ideal.ieee, -EReal.coe_mul]; norm_num
theorem bits_quarter : Ideal.ofBits .f32 1048576000#32 = ((1 / 4 : ℝ) : EReal) := by
  simp [Ideal.ofBits, Ideal.ieee, -EReal.coe_mul]; norm_num
theorem bits_neg_half : Ideal.ofBits .f32 3204448256#32 = ((-(1 / 2) : ℝ) : EReal) := by
  simp [Ideal.ofBits, Ideal.ieee, -EReal.coe_mul]; norm_num
theorem bits_edge : Ideal.ofBits .f32 1113456640#32 = ((55.5 : ℝ) : EReal) := by
  simp [Ideal.ofBits, Ideal.ieee, -EReal.coe_mul]; norm_num
theorem bits_tiny : Ideal.ofBits .f32 955908096#32 < ((1 / 2 : ℝ) : EReal) := by
  simp [Ideal.ofBits, Ideal.ieee, -EReal.coe_mul]; norm_num

theorem coe_max' (a b : ℝ) : max (a : EReal) (b : EReal) = ((max a b : ℝ) : EReal) := (EReal.coe_strictMono.monotone.map_max).symm

theorem absf_coe (a : ℝ) : (FloatOps.absf (F := Ideal) (φ := .f32) (a : EReal) : EReal) = ((|a| : ℝ) : EReal) := by
  rw [Ideal.absf_def, ← EReal.coe_neg, coe_max']
  rfl

theorem sum_coe {ι : Type} (s : Finset ι) (f : ι → ℝ) : (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

theorem sitofp_word {n : ℕ} (h : n < 2 ^ 31) : (FloatOps.sitofp (F := Ideal) .f32 (BitVec.ofNat 32 n) : EReal) = ((n : ℝ) : EReal) := by
  show (((BitVec.ofNat 32 n).toInt : ℝ) : EReal) = _
  rw [toInt_word h]
  norm_cast

theorem div_one_coe (a : ℝ) : Ideal.div (a : EReal) 1 = (a : EReal) := by
  unfold Ideal.div
  simp

/-! ## The tent -/

/-- Sample `i` of the enlarged axis, in the units of the small one. -/
def sample (i : ℕ) : ℝ := (i + 1 / 2) * (1 / 4) - 1 / 2

/-- The tent of sample `i` at point `a`. -/
def tent (i a : ℕ) : ℝ := max 0 (1 - |sample i - a|)

/-- The total of sample `i`'s tents. -/
def total (i : ℕ) : ℝ := ∑ a : Fin 56, tent i a.val

/-- The weight of point `a` in sample `i`. -/
def weight (i a : ℕ) : EReal := Ideal.div ((tent i a : ℝ) : EReal) ((total i : ℝ) : EReal)

theorem tent_nonneg (i a : ℕ) : 0 ≤ tent i a := le_max_left _ _

theorem half_lt_total {i : ℕ} (h : i < 224) : 1 / 2 < total i := by
  have h1 : (1 / 2 : ℝ) < tent i (i / 4) := by
    refine lt_of_lt_of_le ?_ (le_max_right _ _)
    have hd : (i : ℝ) = 4 * ((i / 4 : ℕ) : ℝ) + ((i % 4 : ℕ) : ℝ) := by exact_mod_cast (Nat.div_add_mod i 4).symm
    have hm : ((i % 4 : ℕ) : ℝ) ≤ 3 := by
      have : i % 4 ≤ 3 := by omega
      exact_mod_cast this
    have hm' : (0 : ℝ) ≤ ((i % 4 : ℕ) : ℝ) := Nat.cast_nonneg _
    have : |sample i - ((i / 4 : ℕ) : ℝ)| ≤ 3 / 8 := by
      rw [abs_le]
      unfold sample
      constructor <;> rw [hd] <;> ring_nf <;> linarith
    linarith
  have hk : i / 4 < 56 := by omega
  exact h1.trans_le (Finset.single_le_sum (f := fun a : Fin 56 => tent i a.val) (fun a _ => tent_nonneg _ _) (Finset.mem_univ (⟨i / 4, hk⟩ : Fin 56)))

theorem sample_low (i : ℕ) : -(1 / 2) ≤ sample i := by
  have : (0 : ℝ) ≤ i := Nat.cast_nonneg i
  unfold sample; linarith

theorem sample_high {i : ℕ} (h : i < 224) : sample i ≤ 55.5 := by
  have : (i : ℝ) ≤ 223 := by
    have h' : i ≤ 223 := by omega
    exact_mod_cast h'
  unfold sample; norm_num; linarith

/-! ## As the programs write it -/

/-- The sample. -/
theorem sample_eq {i : ℕ} (hi : i < 2 ^ 31) :
    (FloatOps.sitofp (F := Ideal) .f32 (BitVec.ofNat 32 i) + Ideal.ofBits .f32 1056964608#32) * Ideal.ofBits .f32 1048576000#32 - Ideal.ofBits .f32 1056964608#32
      = ((sample i : ℝ) : EReal) := by
  rw [sitofp_word hi, bits_half, bits_quarter, ← EReal.coe_add, ← EReal.coe_mul, ← EReal.coe_sub]
  rfl

/-- The tent, as a matrix of weights is written. -/
theorem tent_eq {i a : ℕ} (ha : a < 2 ^ 31) :
    max 0 (1 - FloatOps.absf (F := Ideal) (φ := .f32) (((sample i : ℝ) : EReal) - FloatOps.sitofp (F := Ideal) .f32 (BitVec.ofNat 32 a))) = ((tent i a : ℝ) : EReal) := by
  rw [sitofp_word ha, ← EReal.coe_sub, absf_coe, ← EReal.coe_one, ← EReal.coe_sub, ← EReal.coe_zero, coe_max']
  rfl

/-- The tent, as the enlargement is written: the distance divided by one, its size taken twice. -/
theorem tent_eq' {i a : ℕ} (ha : a < 2 ^ 31) :
    max 0 (1 - FloatOps.absf (F := Ideal) (φ := .f32) (Ideal.div (FloatOps.absf (F := Ideal) (φ := .f32) (((sample i : ℝ) : EReal)
      - FloatOps.sitofp (F := Ideal) .f32 (BitVec.ofNat 32 a))) 1)) = ((tent i a : ℝ) : EReal) := by
  rw [sitofp_word ha, ← EReal.coe_sub, absf_coe, div_one_coe, absf_coe, abs_abs, ← EReal.coe_one, ← EReal.coe_sub, ← EReal.coe_zero, coe_max']
  rfl

/-- The weight, as the enlargement is written: guarded against a total near zero and against samples beyond the edges. -/
theorem weight_eq {i : ℕ} (hi : i < 224) (a : ℕ) :
    Scalar.select (IntOp.andi (BitVec.ofBool (decide (Ideal.ofBits .f32 3204448256#32 ≤ ((sample i : ℝ) : EReal))))
        (BitVec.ofBool (decide (((sample i : ℝ) : EReal) ≤ Ideal.ofBits .f32 1113456640#32))))
      (if Ideal.ofBits .f32 955908096#32 < FloatOps.absf (F := Ideal) (φ := .f32) ((total i : ℝ) : EReal) then
        Ideal.div ((tent i a : ℝ) : EReal) (if ((total i : ℝ) : EReal) ≠ 0 then ((total i : ℝ) : EReal) else 1) else 0) (0 : EReal) = weight i a := by
  have ht := half_lt_total hi
  have h1 : Ideal.ofBits .f32 3204448256#32 ≤ ((sample i : ℝ) : EReal) := by rw [bits_neg_half]; exact EReal.coe_le_coe_iff.mpr (sample_low i)
  have h2 : ((sample i : ℝ) : EReal) ≤ Ideal.ofBits .f32 1113456640#32 := by rw [bits_edge]; exact EReal.coe_le_coe_iff.mpr (sample_high hi)
  have h3 : Ideal.ofBits .f32 955908096#32 < FloatOps.absf (F := Ideal) (φ := .f32) ((total i : ℝ) : EReal) := by
    rw [absf_coe, abs_of_pos (by linarith)]
    exact bits_tiny.trans (EReal.coe_lt_coe_iff.mpr ht)
  have h4 : ((total i : ℝ) : EReal) ≠ 0 := by
    exact fun e => by have := EReal.coe_eq_zero.mp e; linarith
  rw [decide_eq_true h1, decide_eq_true h2, if_pos h3, if_pos h4]
  rfl

end Cert.Model

end
-- ==== Proof.Chain.lean ====
/- What the kernel's calls and host operations leave in each array, in terms of what they find. -/
module

public import proofs.«01_k».proof.Proof.Run
public import proofs.«01_k».proof.Proof.Read2
public import proofs.«01_k».proof.Proof.Weights
public import Idealize.ShloMosaic.Lib.StableHlo.RunClose
public import Idealize.ShloMosaic.Lib.StableHlo.RunRead
public import Idealize.ShloMosaic.Lib.DynamicIndex
public import Idealize.ShloMosaic.Lib.Pipeline.ValueKit

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic Idealize.ShloMosaic.StableHlo
open Idealize.ShloMosaic.Pipeline (Dat)

section regions

variable {F : FTy → Type} [FloatOps F] (m : (ℓ : Loc nD τ sig) → Buf (Elt F) ℓ) (c : Dev nD)

theorem W1_mins : W1 m c (Proc.devRef .tc main_call0_v0_0) = minOut (patch0 (W0 m) c) (lib0 (W0 m) c) := by
  refine (Pipeline.afterRegion_arr (dat0 (W0 m) c) (W0 m c) launch0.win.arr_inj 2).trans ((dat0 (W0 m) c).arrAt_eq_of_after_last 2 ⟨31, by decide⟩ (by decide +kernel) _ fun j => ?_)
  blk_simp
  exact congrFun (after0_2 (W0 m) c _) j
theorem W1_far : W1 m c (Proc.devRef .tc main_call0_v0_1) = farOut (patch0 (W0 m) c) (lib0 (W0 m) c) := by
  refine (Pipeline.afterRegion_arr (dat0 (W0 m) c) (W0 m c) launch0.win.arr_inj 3).trans ((dat0 (W0 m) c).arrAt_eq_of_after_last 3 ⟨31, by decide⟩ (by decide +kernel) _ fun j => ?_)
  blk_simp
  exact congrFun (after0_3 (W0 m) c _) j
theorem W2_trow : W2 m c (Proc.devRef .tc main_call0_v1_0) = rowOf (far1 (W1 m) c) (lib1 (W1 m) c) := by
  refine (Pipeline.afterRegion_arr (dat1 (W1 m) c) (W1 m c) launch1.win.arr_inj 2).trans ((dat1 (W1 m) c).arrAt_eq_of_after_last 2 ⟨31, by decide⟩ (by decide +kernel) _ fun j => ?_)
  blk_simp
  exact congrFun (after1_2 (W1 m) c _) j
theorem W2_word : W2 m c (Proc.devRef .tc main_call0_v1_1) = k1_pay2 (rowOf (far1 (W1 m) c) (lib1 (W1 m) c)) := by
  refine (Pipeline.afterRegion_arr (dat1 (W1 m) c) (W1 m c) launch1.win.arr_inj 3).trans ((dat1 (W1 m) c).arrAt_eq_of_after_last 3 ⟨31, by decide⟩ (by decide +kernel) _ fun j => ?_)
  blk_simp
  exact congrFun (after1_3 (W1 m) c _) j
theorem W4_score : W4 m c (Proc.devRef .tc main_call0_v31_0) = score2 (W3 m) c := by
  refine (Pipeline.afterRegion_arr (dat2 (W3 m) c) (W3 m c) launch2.win.arr_inj 6).trans ((dat2 (W3 m) c).arrAt_eq_of_after_last 6 ⟨31, by decide⟩ (by decide +kernel) _ fun j => ?_)
  blk_simp
  exact congrFun (after2_6 (W3 m) c _) j
theorem W4_map : W4 m c (Proc.devRef .tc main_call0_v31_1) = map2 (W3 m) c := by
  refine (Pipeline.afterRegion_arr (dat2 (W3 m) c) (W3 m c) launch2.win.arr_inj 7).trans ((dat2 (W3 m) c).arrAt_eq_of_after_last 7 ⟨31, by decide⟩ (by decide +kernel) _ fun j => ?_)
  blk_simp
  exact congrFun (after2_7 (W3 m) c _) j

end regions

section host

variable (V : Valuation τ sig (Elt Ideal))

/-- The weights on the left. -/
theorem left_eq (i : Fin 224) (a : Fin 56) : (after hostOps2 V (Proc.devRef .tc main_call0_v29) : FVec Ideal S224x56 .f32) (ix2 i a) = weight i.val a.val := by
  unfold hostOps2
  after_reads_simp
  simp only [TRef.ofBuf, TRef.toBuf, cast_cast, cast_eq]
  pointwise []
  rw [sample_eq (by have := i.isLt; omega)]
  rw [tent_eq (by have := a.isLt; omega), Finset.sum_congr rfl fun x _ => tent_eq (i := i.val) (by have := x.isLt; omega), sum_coe]
  rfl

/-- The weights on the right. -/
theorem right_eq (i : Fin 224) (a : Fin 56) : (after hostOps2 V (Proc.devRef .tc main_call0_v30) : FVec Ideal S56x224 .f32) (ix2 a i) = weight i.val a.val := by
  unfold hostOps2
  after_reads_simp
  simp only [TRef.ofBuf, TRef.toBuf, cast_cast, cast_eq]
  pointwise []
  rw [sample_eq (by have := i.isLt; omega)]
  rw [tent_eq (by have := a.isLt; omega), Finset.sum_congr rfl fun x _ => tent_eq (i := i.val) (by have := x.isLt; omega), sum_coe]
  rfl

/-- The minima as a square. -/
theorem mins_eq (v : FVec Ideal S3136x1 .f32) (hv : V (Proc.devRef .tc main_call0_v0_0) = v) (a b : Fin 56) (h : a.val * 56 + b.val < 3136) :
    (after hostOps2 V (Proc.devRef .tc main_call0_v7) : FVec Ideal S56x56 .f32) (ix2 a b) = v (ix2 ⟨a.val * 56 + b.val, h⟩ 0) := by
  unfold hostOps2
  after_reads_simp
  rw [hv]
  pointwise []

/-- A row sliced out of a table at its own number. -/
theorem slice_row (B : FVec Ideal S16384x1152 .f32) (start : Fin 2 → Int) (h : S16384x1152.Slices (fun _ => 0) S1x1152) (k : Fin 16384)
    (h0 : start 0 = (k.val : Int)) (h1 : start 1 = 0) (x : Fin 1152) : Host.dynamicSlice S1x1152 B start h (ix2 0 x) = B (ix2 k x) := by
  have hk : S16384x1152.Slices ![k.val, 0] S1x1152 := ⟨rfl, fun a => match a with
    | 0 => by show k.val + 1 ≤ 16384; have := k.isLt; omega
    | 1 => by show 0 + 1152 ≤ 1152; omega⟩
  rw [Host.dynamicSlice_eq_extractStridedSlice S1x1152 B start ![k.val, 0] h hk fun a => match a with
    | 0 => h0
    | 1 => h1]
  pointwise []

theorem word_nonneg {i : IVec S_ 32} {k : Fin 16384} (d : IVec S_ 32) (h : i (Shape.Idx.first h_S_) = BitVec.ofNat 32 k.val) :
    (select (cmpi .slt i (constantI S_ 32 0#32)) d i (Shape.Idx.first h_S_)).toInt = (k.val : Int) := by
  have hk := k.isLt
  rw [select_slt_zero_of_nonneg _ _ _ _ (by rw [h, toInt_word (by omega)]; omega), h, toInt_word (by omega)]

/-- The library row whose number the second call found. -/
theorem near_eq (B : FVec Ideal S16384x1152 .f32) (hB : V (Proc.devRef .tc main_arg1) = B) (w : IVec S1x1 32) (hw : V (Proc.devRef .tc main_call0_v1_1) = w)
    (k : Fin 16384) (hk : w (ix2 0 0) = BitVec.ofNat 32 k.val) (x : Fin 1152) :
    (after hostOps2 V (Proc.devRef .tc main_call0_v6) : FVec Ideal S1x1152 .f32) (ix2 0 x) = B (ix2 k x) := by
  unfold hostOps2
  after_reads_simp [unaryIndexed_result_read, indexContents_tref_cons, indexContents_tref_empty]
  rw [hB, hw]
  refine slice_row B _ sliceFits_S16384x1152_S1x1152 k ?_ ?_ x
  · refine word_nonneg _ ?_
    rw [← hk]
    show (fun i => shapeCast S_ w shapeCasts_S1x1_S_ i) (Shape.Idx.first h_S_) = w (ix2 0 0)
    pointwise []
  · rfl

/-- The score as a scalar. -/
theorem score_out (v : FVec Ideal S1x1 .f32) (hv : V (Proc.devRef .tc main_call0_v31_0) = v) :
    (after hostOps3 V (Proc.devRef .tc main_v0_0) : FVec Ideal S_ .f32) ix0 = v (ix2 0 0) := by
  unfold hostOps3
  after_reads_simp
  rw [hv]
  pointwise []

/-- The map with its two axes of length one. -/
theorem map_out (v : FVec Ideal S224x224 .f32) (hv : V (Proc.devRef .tc main_call0_v31_1) = v) (i j : Fin 224) :
    (after hostOps3 V (Proc.devRef .tc main_v0_1) : FVec Ideal S1x1x224x224 .f32) (ix4 0 0 i j) = v (ix2 i j) := by
  unfold hostOps3
  after_reads_simp
  rw [hv]
  pointwise []

end host

end Cert.KernelIdeal.Hand

end
-- ==== Proof.KernelOut.lean ====
/- What the kernel leaves in its two results, in terms of its arguments. -/
module

public import proofs.«01_k».proof.Proof.Chain

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic Idealize.ShloMosaic.StableHlo

/-- The patch at a place of the square. -/
def place (a b : Fin 56) : Fin 3136 := ⟨a.val * 56 + b.val, by have := a.isLt; have := b.isLt; omega⟩

/-- Every patch has a place. -/
theorem sup_place (f : Fin 3136 → EReal) : (Finset.univ.sup fun x : Fin 56 × Fin 56 => f (place x.1 x.2)) = Finset.univ.sup f := by
  refine le_antisymm (Finset.sup_le fun x _ => Finset.le_sup (f := f) (Finset.mem_univ _)) (Finset.sup_le fun r _ => ?_)
  have e : place ⟨r.val / 56, by have := r.isLt; omega⟩ ⟨r.val % 56, by omega⟩ = r := by
    unfold place; ext; show r.val / 56 * 56 + r.val % 56 = r.val; omega
  have := Finset.le_sup (f := fun x : Fin 56 × Fin 56 => f (place x.1 x.2))
    (Finset.mem_univ ((⟨r.val / 56, by have := r.isLt; omega⟩, ⟨r.val % 56, by omega⟩) : Fin 56 × Fin 56))
  dsimp only at this
  rwa [e] at this

variable (m : (ℓ : Loc nD τ sig) → Buf (Elt Ideal) ℓ) (c : Dev nD) (X : FVec Ideal S3136x1152 .f32) (B : FVec Ideal S16384x1152 .f32)
  (hX : m ((c.tc : Thread nD τ).loc main_arg0) = X) (hB : m ((c.tc : Thread nD τ).loc main_arg1) = B)

include hX hB

theorem patch0_eq : patch0 (W0 m) c = X := hX
theorem lib0_eq : lib0 (W0 m) c = B := hB
theorem lib1_eq : lib1 (W1 m) c = B := (W1_of m c main_arg1 (by decide)).trans hB
theorem lib2_eq : lib2 (W3 m) c = B :=
  (W3_of m c main_arg1 (by decide)).trans <| (W2_of m c main_arg1 (by decide)).trans <| (W1_of m c main_arg1 (by decide)).trans hB

/-- The minima reach the third call. -/
theorem W2_mins : W2 m c (Proc.devRef .tc main_call0_v0_0) = minOut (F := Ideal) X B := by
  rw [W2_of m c main_call0_v0_0 (by decide), W1_mins, patch0_eq m c X B hX hB, lib0_eq m c X B hX hB]

theorem mins2_eq (a b : Fin 56) : mins2 (W3 m) c (ix2 a b) = max (nearest X B (place a b)) 0 :=
  (mins_eq (W2 m c) _ (W2_mins m c X B hX hB) a b (place a b).isLt).trans (minOut_apply X B _ 0)

/-- The map, as the kernel leaves it. -/
theorem kernel_map (i j : Fin 224) : (W5 m c (Proc.devRef .tc main_v0_1) : FVec Ideal S1x1x224x224 .f32) (ix4 0 0 i j)
    = ∑ x : Fin 56, (∑ y : Fin 56, weight i.val y.val * root (nearest X B (place y x))) * weight j.val x.val := by
  refine (map_out (W4 m c) _ (W4_map m c) i j).trans ?_
  refine (mapOf_apply (mins2 (W3 m) c) (left2 (W3 m) c) (right2 (W3 m) c) i j).trans ?_
  refine Finset.sum_congr rfl fun x _ => ?_
  refine congrArg₂ (· * ·) (Finset.sum_congr rfl fun y _ => congrArg₂ (· * ·) (left_eq (W2 m c) i y) ?_) (right_eq (W2 m c) j x)
  rw [mins2_eq m c X B hX hB]
  rfl

/-- The score, as the kernel leaves it: of the hardest patch `r`, the library row `j` nearest to it, and the second and third pick around that row. -/
theorem kernel_score (r : Fin 3136) (j p q t : Fin 16384) (hr : FirstMax (fun r : Fin 3136 => max (nearest X B r) 0) r)
    (hj : FirstMin (fun k : Fin 16384 => sqd (row X r) (row B k)) j) (hp : Picks (fun k : Fin 16384 => max (sqd (row B j) (row B k)) 0) p q t) :
    (W5 m c (Proc.devRef .tc main_v0_0) : FVec Ideal S_ .f32) ix0
      = score (Ideal.sqrt (Finset.univ.sup fun r : Fin 3136 => max (nearest X B r) 0)) (root (sqd (row X r) (row B q))) (root (sqd (row X r) (row B t))) := by
  have hfar : row (far1 (W1 m) c) 0 = row X r := by
    rw [show far1 (W1 m) c = farOut (F := Ideal) X B from by rw [← patch0_eq m c X B hX hB, ← lib0_eq m c X B hX hB]; exact W1_far m c]
    exact farOut_apply X B r hr
  have htrow : ∀ k : Fin 16384, rowOf (F := Ideal) (far1 (W1 m) c) (lib1 (W1 m) c) (ix2 0 k) = sqd (row X r) (row B k) := fun k => by
    rw [rowOf_apply, hfar, lib1_eq m c X B hX hB]
  have hnear : row (near2 (W3 m) c) 0 = row B j := funext fun x => by
    refine near_eq (W2 m c) B ?_ _ (W2_word m c) j ?_ x
    · exact (W2_of m c main_arg1 (by decide)).trans <| (W1_of m c main_arg1 (by decide)).trans hB
    · exact k1_pay2_apply _ j (by simp only [htrow]; exact hj)
  have ht2 : ∀ k : Fin 16384, trow2 (W3 m) c (ix2 0 k) = sqd (row X r) (row B k) := fun k => by
    rw [← htrow k, ← W2_trow m c]
    exact congrFun (W3_of m c main_call0_v1_0 (by decide)) _
  have hw : ∀ k : Fin 16384, rowOf (F := Ideal) (near2 (W3 m) c) (lib2 (W3 m) c) (ix2 0 k) = sqd (row B j) (row B k) := fun k => by
    rw [rowOf_apply, hnear, lib2_eq m c X B hX hB]
  refine (score_out (W4 m c) _ (W4_score m c)).trans ?_
  refine (scoreOf_apply _ (trow2 (W3 m) c) (mins2 (W3 m) c) p q t (by simp only [hw]; exact hp)).trans ?_
  rw [ht2, ht2, ← sup_place]
  simp only [mins2_eq m c X B hX hB]

end Cert.KernelIdeal.Hand

end
-- ==== Proof.RefOps.lean ====
/- The reference's @main as lists of host operations, one list for each stage of the computation, and its run: every buffer ends at what
   the operations leave of the launch contents. -/
module

public import proofs.«01_k».proof.ReferenceIdeal
public import proofs.«01_k».proof.Proof.Gen.ReferenceIdeal
public import Idealize.ShloMosaic.Lib.Claim
public import Idealize.ShloMosaic.Lib.StableHlo.RunRead

@[expose] public section

set_option maxRecDepth 16384

noncomputable section

namespace Cert.ReferenceIdeal.Hand

open Cert.ReferenceIdeal Cert.ReferenceIdeal.Gen Cert.ReferenceIdeal.Facts
open Idealize.ShloMosaic Idealize.ShloMosaic.TcCoe Idealize.SL.Sem

variable {F : FTy → Type} [FloatOps F]

/-- Operations of @main: the distances of every patch to every library row, and each patch's least one. -/
def opsDist : List (HloOp τ sig (Elt F)) :=
  [StableHlo.binary main_arg0 main_arg0 main_v0 (mulf : (⟨S3136x1152, .f32⟩ : BufTy).Contents (Elt F) → (⟨S3136x1152, .f32⟩ : BufTy).Contents (Elt F) → (⟨S3136x1152, .f32⟩ : BufTy).Contents (Elt F)),
   StableHlo.nullary main_cst (constant S_ .f32 0x00000000#32),
   StableHlo.binary main_v0 main_cst main_v1 ((fun x v => Host.reduceAdd x v reducesTo_S3136x1152_S3136_d1 h_S_) : (⟨S3136x1152, .f32⟩ : BufTy).Contents (Elt F) → (⟨S_, .f32⟩ : BufTy).Contents (Elt F) → (⟨S3136, .f32⟩ : BufTy).Contents (Elt F)),
   StableHlo.unary main_v1 main_v2 (broadcastInDim S3136x1 ![0] bcast_S3136_S3136x1_0 : (⟨S3136, .f32⟩ : BufTy).Contents (Elt F) → (⟨S3136x1, .f32⟩ : BufTy).Contents (Elt F)),
   StableHlo.binary main_arg1 main_arg1 main_v3 (mulf : (⟨S16384x1152, .f32⟩ : BufTy).Contents (Elt F) → (⟨S16384x1152, .f32⟩ : BufTy).Contents (Elt F) → (⟨S16384x1152, .f32⟩ : BufTy).Contents (Elt F)),
   StableHlo.nullary main_cst_0 (constant S_ .f32 0x00000000#32),
   StableHlo.binary main_v3 main_cst_0 main_v4 ((fun x v => Host.reduceAdd x v reducesTo_S16384x1152_S16384_d1 h_S_) : (⟨S16384x1152, .f32⟩ : BufTy).Contents (Elt F) → (⟨S_, .f32⟩ : BufTy).Contents (Elt F) → (⟨S16384, .f32⟩ : BufTy).Contents (Elt F)),
   StableHlo.unary main_v4 main_v5 (broadcastInDim S16384x1 ![0] bcast_S16384_S16384x1_0 : (⟨S16384, .f32⟩ : BufTy).Contents (Elt F) → (⟨S16384x1, .f32⟩ : BufTy).Contents (Elt F)),
   StableHlo.unary main_v5 main_v6 ((transpose S1x16384 [1, 0] · transposes_S16384x1_S1x16384_1_0) : (⟨S16384x1, .f32⟩ : BufTy).Contents (Elt F) → (⟨S1x16384, .f32⟩ : BufTy).Contents (Elt F)),
   StableHlo.unary main_v2 main_v7 (broadcastInDim S3136x16384 ![0, 1] bcast_S3136x1_S3136x16384_0_1 : (⟨S3136x1, .f32⟩ : BufTy).Contents (Elt F) → (⟨S3136x16384, .f32⟩ : BufTy).Contents (Elt F)),
   StableHlo.unary main_v6 main_v8 (broadcastInDim S3136x16384 ![0, 1] bcast_S1x16384_S3136x16384_0_1 : (⟨S1x16384, .f32⟩ : BufTy).Contents (Elt F) → (⟨S3136x16384, .f32⟩ : BufTy).Contents (Elt F)),
   StableHlo.binary main_v7 main_v8 main_v9 (addf : (⟨S3136x16384, .f32⟩ : BufTy).Contents (Elt F) → (⟨S3136x16384, .f32⟩ : BufTy).Contents (Elt F) → (⟨S3136x16384, .f32⟩ : BufTy).Contents (Elt F)),
   StableHlo.unary main_arg1 main_v10 ((transpose S1152x16384 [1, 0] · transposes_S16384x1152_S1152x16384_1_0) : (⟨S16384x1152, .f32⟩ : BufTy).Contents (Elt F) → (⟨S1152x16384, .f32⟩ : BufTy).Contents (Elt F)),
   StableHlo.binary main_arg0 main_v10 main_v11 ((fun l r => Host.dotGeneral dot_S3136x1152_S1152x16384_S3136x16384_1_0_0_1_n_n none l r) : (⟨S3136x1152, .f32⟩ : BufTy).Contents (Elt F) → (⟨S1152x16384, .f32⟩ : BufTy).Contents (Elt F) → (⟨S3136x16384, .f32⟩ : BufTy).Contents (Elt F)),
   StableHlo.nullary main_cst_1 (constant S_ .f32 0x40000000#32),
   StableHlo.unary main_cst_1 main_v12 (broadcastInDim S3136x16384 ![] bcast_S_S3136x16384 : (⟨S_, .f32⟩ : BufTy).Contents (Elt F) → (⟨S3136x16384, .f32⟩ : BufTy).Contents (Elt F)),
   StableHlo.binary main_v12 main_v11 main_v13 (mulf : (⟨S3136x16384, .f32⟩ : BufTy).Contents (Elt F) → (⟨S3136x16384, .f32⟩ : BufTy).Contents (Elt F) → (⟨S3136x16384, .f32⟩ : BufTy).Contents (Elt F)),
   StableHlo.binary main_v9 main_v13 main_v14 (subf : (⟨S3136x16384, .f32⟩ : BufTy).Contents (Elt F) → (⟨S3136x16384, .f32⟩ : BufTy).Contents (Elt F) → (⟨S3136x16384, .f32⟩ : BufTy).Contents (Elt F)),
   StableHlo.nullary main_cst_2 (constant S_ .f32 0x00000000#32),
   StableHlo.unary main_cst_2 main_v15 (broadcastInDim S3136x16384 ![] bcast_S_S3136x16384 : (⟨S_, .f32⟩ : BufTy).Contents (Elt F) → (⟨S3136x16384, .f32⟩ : BufTy).Contents (Elt F)),
   StableHlo.binary main_v14 main_v15 main_v16 (maximumf : (⟨S3136x16384, .f32⟩ : BufTy).Contents (Elt F) → (⟨S3136x16384, .f32⟩ : BufTy).Contents (Elt F) → (⟨S3136x16384, .f32⟩ : BufTy).Contents (Elt F)),
   StableHlo.unary main_v16 main_v17 (Host.sqrt : (⟨S3136x16384, .f32⟩ : BufTy).Contents (Elt F) → (⟨S3136x16384, .f32⟩ : BufTy).Contents (Elt F)),
   StableHlo.nullary main_cst_3 (constant S_ .f32 0x7F800000#32),
   StableHlo.binary main_v17 main_cst_3 main_v18 ((fun x v => Host.reduce FloatOps.minimumf x v reducesTo_S3136x16384_S3136_d1 h_S_) : (⟨S3136x16384, .f32⟩ : BufTy).Contents (Elt F) → (⟨S_, .f32⟩ : BufTy).Contents (Elt F) → (⟨S3136, .f32⟩ : BufTy).Contents (Elt F))]

/-- Operations of @main: the hardest patch, its distance, and its nearest library row. -/
def opsPick : List (HloOp τ sig (Elt F)) :=
  [StableHlo.nullary main_call0_v0 (iotaInDim S3136x16384 32 1),
   StableHlo.nullary main_call0_cst (constant S_ .f32 0x7F800000#32),
   StableHlo.nullary main_call0_c (constantI S_ 32 0#32),
   StableHlo.quaternary main_v17 main_call0_v0 main_call0_cst main_call0_c main_call0_v1_0 (fun x y u v j => (Host.argReduce reducer_argmin_f32_i32 x y u v reducesTo_S3136x16384_S3136_d1 h_S_ j).1),
   StableHlo.quaternary main_v17 main_call0_v0 main_call0_cst main_call0_c main_v19 (fun x y u v j => (Host.argReduce reducer_argmin_f32_i32 x y u v reducesTo_S3136x16384_S3136_d1 h_S_ j).2),
   StableHlo.nullary main_call1_v0 (iotaInDim S3136 32 0),
   StableHlo.nullary main_call1_cst (constant S_ .f32 0xFF800000#32),
   StableHlo.nullary main_call1_c (constantI S_ 32 0#32),
   StableHlo.quaternary main_v18 main_call1_v0 main_call1_cst main_call1_c main_call1_v1_0 (fun x y u v j => (Host.argReduce reducer_argmax_f32_i32 x y u v reducesTo_S3136_S_d0 h_S_ j).1),
   StableHlo.quaternary main_v18 main_call1_v0 main_call1_cst main_call1_c main_v20 (fun x y u v j => (Host.argReduce reducer_argmax_f32_i32 x y u v reducesTo_S3136_S_d0 h_S_ j).2),
   StableHlo.nullary main_cst_4 (constant S_ .f32 0xFF800000#32),
   StableHlo.binary main_v18 main_cst_4 main_v21 ((fun x v => Host.reduce FloatOps.maximumf x v reducesTo_S3136_S_d0 h_S_) : (⟨S3136, .f32⟩ : BufTy).Contents (Elt F) → (⟨S_, .f32⟩ : BufTy).Contents (Elt F) → (⟨S_, .f32⟩ : BufTy).Contents (Elt F))]

/-- Operations of @main: the rows of that patch and of that library row. -/
def opsRows : List (HloOp τ sig (Elt F)) :=
  [StableHlo.nullary main_c (constantI S_ 32 0#32),
   StableHlo.binary main_v20 main_c main_v22 (cmpi .slt : (⟨S_, .i32⟩ : BufTy).Contents (Elt F) → (⟨S_, .i32⟩ : BufTy).Contents (Elt F) → (⟨S_, .i1⟩ : BufTy).Contents (Elt F)),
   StableHlo.nullary main_c_5 (constantI S_ 32 3136#32),
   StableHlo.binary main_v20 main_c_5 main_v23 (addi : (⟨S_, .i32⟩ : BufTy).Contents (Elt F) → (⟨S_, .i32⟩ : BufTy).Contents (Elt F) → (⟨S_, .i32⟩ : BufTy).Contents (Elt F)),
   StableHlo.ternary main_v22 main_v23 main_v20 main_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.nullary main_c_6 (constantI S_ 32 0#32),
   StableHlo.nullary main_c_7 (constantI S_ 32 0#32),
   StableHlo.binary main_c_6 main_c_7 main_v25 (cmpi .slt : (⟨S_, .i32⟩ : BufTy).Contents (Elt F) → (⟨S_, .i32⟩ : BufTy).Contents (Elt F) → (⟨S_, .i1⟩ : BufTy).Contents (Elt F)),
   StableHlo.nullary main_c_8 (constantI S_ 32 0#32),
   StableHlo.nullary main_c_9 (constantI S_ 32 1152#32),
   StableHlo.binary main_c_8 main_c_9 main_v26 (addi : (⟨S_, .i32⟩ : BufTy).Contents (Elt F) → (⟨S_, .i32⟩ : BufTy).Contents (Elt F) → (⟨S_, .i32⟩ : BufTy).Contents (Elt F)),
   StableHlo.nullary main_c_10 (constantI S_ 32 0#32),
   StableHlo.ternary main_v25 main_v26 main_c_10 main_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unaryIndexed main_arg0 ![main_v24, main_v27] ⟨S_, .i32⟩ main_v28 ((fun x i => Host.dynamicSlice S1x1152 x (fun k => (i k (Shape.Idx.first h_S_)).toInt) sliceFits_S3136x1152_S1x1152) : (⟨S3136x1152, .f32⟩ : BufTy).Contents (Elt F) → (Fin 2 → (⟨S_, .i32⟩ : BufTy).Contents (Elt F)) → (⟨S1x1152, .f32⟩ : BufTy).Contents (Elt F)),
   StableHlo.reshape main_v28 main_v29 (rfl : (.f32 : EltTy) = .f32) shapeCasts_S1x1152_S1152,
   StableHlo.unary main_v29 main_v30 (broadcastInDim S1x1152 ![1] bcast_S1152_S1x1152_1 : (⟨S1152, .f32⟩ : BufTy).Contents (Elt F) → (⟨S1x1152, .f32⟩ : BufTy).Contents (Elt F)),
   StableHlo.nullary main_c_11 (constantI S_ 32 0#32),
   StableHlo.binary main_v20 main_c_11 main_v31 (cmpi .slt : (⟨S_, .i32⟩ : BufTy).Contents (Elt F) → (⟨S_, .i32⟩ : BufTy).Contents (Elt F) → (⟨S_, .i1⟩ : BufTy).Contents (Elt F)),
   StableHlo.nullary main_c_12 (constantI S_ 32 3136#32),
   StableHlo.binary main_v20 main_c_12 main_v32 (addi : (⟨S_, .i32⟩ : BufTy).Contents (Elt F) → (⟨S_, .i32⟩ : BufTy).Contents (Elt F) → (⟨S_, .i32⟩ : BufTy).Contents (Elt F)),
   StableHlo.ternary main_v31 main_v32 main_v20 main_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unaryIndexed main_v19 ![main_v33] ⟨S_, .i32⟩ main_v34 ((fun x i => Host.dynamicSlice S1 x (fun k => (i k (Shape.Idx.first h_S_)).toInt) sliceFits_S3136_S1) : (⟨S3136, .i32⟩ : BufTy).Contents (Elt F) → (Fin 1 → (⟨S_, .i32⟩ : BufTy).Contents (Elt F)) → (⟨S1, .i32⟩ : BufTy).Contents (Elt F)),
   StableHlo.reshape main_v34 main_v35 (rfl : (.i32 : EltTy) = .i32) shapeCasts_S1_S_,
   StableHlo.nullary main_c_13 (constantI S_ 32 0#32),
   StableHlo.binary main_v35 main_c_13 main_v36 (cmpi .slt : (⟨S_, .i32⟩ : BufTy).Contents (Elt F) → (⟨S_, .i32⟩ : BufTy).Contents (Elt F) → (⟨S_, .i1⟩ : BufTy).Contents (Elt F)),
   StableHlo.nullary main_c_14 (constantI S_ 32 16384#32),
   StableHlo.binary main_v35 main_c_14 main_v37 (addi : (⟨S_, .i32⟩ : BufTy).Contents (Elt F) → (⟨S_, .i32⟩ : BufTy).Contents (Elt F) → (⟨S_, .i32⟩ : BufTy).Contents (Elt F)),
   StableHlo.ternary main_v36 main_v37 main_v35 main_v38 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.nullary main_c_15 (constantI S_ 32 0#32),
   StableHlo.nullary main_c_16 (constantI S_ 32 0#32),
   StableHlo.binary main_c_15 main_c_16 main_v39 (cmpi .slt : (⟨S_, .i32⟩ : BufTy).Contents (Elt F) → (⟨S_, .i32⟩ : BufTy).Contents (Elt F) → (⟨S_, .i1⟩ : BufTy).Contents (Elt F)),
   StableHlo.nullary main_c_17 (constantI S_ 32 0#32),
   StableHlo.nullary main_c_18 (constantI S_ 32 1152#32),
   StableHlo.binary main_c_17 main_c_18 main_v40 (addi : (⟨S_, .i32⟩ : BufTy).Contents (Elt F) → (⟨S_, .i32⟩ : BufTy).Contents (Elt F) → (⟨S_, .i32⟩ : BufTy).Contents (Elt F)),
   StableHlo.nullary main_c_19 (constantI S_ 32 0#32),
   StableHlo.ternary main_v39 main_v40 main_c_19 main_v41 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unaryIndexed main_arg1 ![main_v38, main_v41] ⟨S_, .i32⟩ main_v42 ((fun x i => Host.dynamicSlice S1x1152 x (fun k => (i k (Shape.Idx.first h_S_)).toInt) sliceFits_S16384x1152_S1x1152) : (⟨S16384x1152, .f32⟩ : BufTy).Contents (Elt F) → (Fin 2 → (⟨S_, .i32⟩ : BufTy).Contents (Elt F)) → (⟨S1x1152, .f32⟩ : BufTy).Contents (Elt F)),
   StableHlo.reshape main_v42 main_v43 (rfl : (.f32 : EltTy) = .f32) shapeCasts_S1x1152_S1152,
   StableHlo.unary main_v43 main_v44 (broadcastInDim S1x1152 ![1] bcast_S1152_S1x1152_1 : (⟨S1152, .f32⟩ : BufTy).Contents (Elt F) → (⟨S1x1152, .f32⟩ : BufTy).Contents (Elt F))]

/-- Operations of @main: the distances from that library row, and the indices of its second and third nearest rows. -/
def opsTop : List (HloOp τ sig (Elt F)) :=
  [StableHlo.binary main_v44 main_v44 main_v45 (mulf : (⟨S1x1152, .f32⟩ : BufTy).Contents (Elt F) → (⟨S1x1152, .f32⟩ : BufTy).Contents (Elt F) → (⟨S1x1152, .f32⟩ : BufTy).Contents (Elt F)),
   StableHlo.nullary main_cst_20 (constant S_ .f32 0x00000000#32),
   StableHlo.binary main_v45 main_cst_20 main_v46 ((fun x v => Host.reduceAdd x v reducesTo_S1x1152_S1_d1 h_S_) : (⟨S1x1152, .f32⟩ : BufTy).Contents (Elt F) → (⟨S_, .f32⟩ : BufTy).Contents (Elt F) → (⟨S1, .f32⟩ : BufTy).Contents (Elt F)),
   StableHlo.unary main_v46 main_v47 (broadcastInDim S1x1 ![0] bcast_S1_S1x1_0 : (⟨S1, .f32⟩ : BufTy).Contents (Elt F) → (⟨S1x1, .f32⟩ : BufTy).Contents (Elt F)),
   StableHlo.binary main_arg1 main_arg1 main_v48 (mulf : (⟨S16384x1152, .f32⟩ : BufTy).Contents (Elt F) → (⟨S16384x1152, .f32⟩ : BufTy).Contents (Elt F) → (⟨S16384x1152, .f32⟩ : BufTy).Contents (Elt F)),
   StableHlo.nullary main_cst_21 (constant S_ .f32 0x00000000#32),
   StableHlo.binary main_v48 main_cst_21 main_v49 ((fun x v => Host.reduceAdd x v reducesTo_S16384x1152_S16384_d1 h_S_) : (⟨S16384x1152, .f32⟩ : BufTy).Contents (Elt F) → (⟨S_, .f32⟩ : BufTy).Contents (Elt F) → (⟨S16384, .f32⟩ : BufTy).Contents (Elt F)),
   StableHlo.unary main_v49 main_v50 (broadcastInDim S16384x1 ![0] bcast_S16384_S16384x1_0 : (⟨S16384, .f32⟩ : BufTy).Contents (Elt F) → (⟨S16384x1, .f32⟩ : BufTy).Contents (Elt F)),
   StableHlo.unary main_v50 main_v51 ((transpose S1x16384 [1, 0] · transposes_S16384x1_S1x16384_1_0) : (⟨S16384x1, .f32⟩ : BufTy).Contents (Elt F) → (⟨S1x16384, .f32⟩ : BufTy).Contents (Elt F)),
   StableHlo.unary main_v47 main_v52 (broadcastInDim S1x16384 ![0, 1] bcast_S1x1_S1x16384_0_1 : (⟨S1x1, .f32⟩ : BufTy).Contents (Elt F) → (⟨S1x16384, .f32⟩ : BufTy).Contents (Elt F)),
   StableHlo.binary main_v52 main_v51 main_v53 (addf : (⟨S1x16384, .f32⟩ : BufTy).Contents (Elt F) → (⟨S1x16384, .f32⟩ : BufTy).Contents (Elt F) → (⟨S1x16384, .f32⟩ : BufTy).Contents (Elt F)),
   StableHlo.unary main_arg1 main_v54 ((transpose S1152x16384 [1, 0] · transposes_S16384x1152_S1152x16384_1_0) : (⟨S16384x1152, .f32⟩ : BufTy).Contents (Elt F) → (⟨S1152x16384, .f32⟩ : BufTy).Contents (Elt F)),
   StableHlo.binary main_v44 main_v54 main_v55 ((fun l r => Host.dotGeneral dot_S1x1152_S1152x16384_S1x16384_1_0_0_1_n_n none l r) : (⟨S1x1152, .f32⟩ : BufTy).Contents (Elt F) → (⟨S1152x16384, .f32⟩ : BufTy).Contents (Elt F) → (⟨S1x16384, .f32⟩ : BufTy).Contents (Elt F)),
   StableHlo.nullary main_cst_22 (constant S_ .f32 0x40000000#32),
   StableHlo.unary main_cst_22 main_v56 (broadcastInDim S1x16384 ![] bcast_S_S1x16384 : (⟨S_, .f32⟩ : BufTy).Contents (Elt F) → (⟨S1x16384, .f32⟩ : BufTy).Contents (Elt F)),
   StableHlo.binary main_v56 main_v55 main_v57 (mulf : (⟨S1x16384, .f32⟩ : BufTy).Contents (Elt F) → (⟨S1x16384, .f32⟩ : BufTy).Contents (Elt F) → (⟨S1x16384, .f32⟩ : BufTy).Contents (Elt F)),
   StableHlo.binary main_v53 main_v57 main_v58 (subf : (⟨S1x16384, .f32⟩ : BufTy).Contents (Elt F) → (⟨S1x16384, .f32⟩ : BufTy).Contents (Elt F) → (⟨S1x16384, .f32⟩ : BufTy).Contents (Elt F)),
   StableHlo.nullary main_cst_23 (constant S_ .f32 0x00000000#32),
   StableHlo.unary main_cst_23 main_v59 (broadcastInDim S1x16384 ![] bcast_S_S1x16384 : (⟨S_, .f32⟩ : BufTy).Contents (Elt F) → (⟨S1x16384, .f32⟩ : BufTy).Contents (Elt F)),
   StableHlo.binary main_v58 main_v59 main_v60 (maximumf : (⟨S1x16384, .f32⟩ : BufTy).Contents (Elt F) → (⟨S1x16384, .f32⟩ : BufTy).Contents (Elt F) → (⟨S1x16384, .f32⟩ : BufTy).Contents (Elt F)),
   StableHlo.unary main_v60 main_v61 (Host.sqrt : (⟨S1x16384, .f32⟩ : BufTy).Contents (Elt F) → (⟨S1x16384, .f32⟩ : BufTy).Contents (Elt F)),
   StableHlo.unary main_v61 main_v62 (Host.negf : (⟨S1x16384, .f32⟩ : BufTy).Contents (Elt F) → (⟨S1x16384, .f32⟩ : BufTy).Contents (Elt F))]

/-- Operations of @main: the sort of the second distances, and the rows it puts second and third. -/
def opsNext : List (HloOp τ sig (Elt F)) :=
  [StableHlo.unary main_v62 main_values ((fun x => (Host.topK S1x3 1 (FloatOps.cmpfTotal .gt) x sliceFits_S1x16384_S1x3).1) : (⟨S1x16384, .f32⟩ : BufTy).Contents (Elt F) → (⟨S1x3, .f32⟩ : BufTy).Contents (Elt F)),
   StableHlo.unary main_v62 main_indices ((fun x => (Host.topK S1x3 1 (FloatOps.cmpfTotal .gt) x sliceFits_S1x16384_S1x3).2) : (⟨S1x16384, .f32⟩ : BufTy).Contents (Elt F) → (⟨S1x3, .i32⟩ : BufTy).Contents (Elt F)),
   StableHlo.unary main_indices main_v63 ((extractStridedSlice S1x2 ![0, 1] · slices_S1x3_S1x2_0_1) : (⟨S1x3, .i32⟩ : BufTy).Contents (Elt F) → (⟨S1x2, .i32⟩ : BufTy).Contents (Elt F)),
   StableHlo.reshape main_v63 main_v64 (rfl : (.i32 : EltTy) = .i32) shapeCasts_S1x2_S2,
   StableHlo.nullary main_c_24 (constantI S_ 32 0#32),
   StableHlo.unary main_c_24 main_v65 (broadcastInDim S2 ![] bcast_S_S2 : (⟨S_, .i32⟩ : BufTy).Contents (Elt F) → (⟨S2, .i32⟩ : BufTy).Contents (Elt F)),
   StableHlo.binary main_v64 main_v65 main_v66 (cmpi .slt : (⟨S2, .i32⟩ : BufTy).Contents (Elt F) → (⟨S2, .i32⟩ : BufTy).Contents (Elt F) → (⟨S2, .i1⟩ : BufTy).Contents (Elt F)),
   StableHlo.nullary main_c_25 (constantI S_ 32 16384#32),
   StableHlo.unary main_c_25 main_v67 (broadcastInDim S2 ![] bcast_S_S2 : (⟨S_, .i32⟩ : BufTy).Contents (Elt F) → (⟨S2, .i32⟩ : BufTy).Contents (Elt F)),
   StableHlo.binary main_v64 main_v67 main_v68 (addi : (⟨S2, .i32⟩ : BufTy).Contents (Elt F) → (⟨S2, .i32⟩ : BufTy).Contents (Elt F) → (⟨S2, .i32⟩ : BufTy).Contents (Elt F)),
   StableHlo.ternary main_v66 main_v68 main_v64 main_v69 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
   StableHlo.unary main_v69 main_v70 (broadcastInDim S2x1 ![0] bcast_S2_S2x1_0 : (⟨S2, .i32⟩ : BufTy).Contents (Elt F) → (⟨S2x1, .i32⟩ : BufTy).Contents (Elt F))]

/-- Operations of @main: the score. -/
def opsScore : List (HloOp τ sig (Elt F)) :=
  [StableHlo.binary main_arg1 main_v70 main_v71 ((fun x i => Host.gather gather_S16384x1152_S2x1_S2x1152_1_0_n_n_0_1_11152 x i) : (⟨S16384x1152, .f32⟩ : BufTy).Contents (Elt F) → (⟨S2x1, .i32⟩ : BufTy).Contents (Elt F) → (⟨S2x1152, .f32⟩ : BufTy).Contents (Elt F)),
   StableHlo.unary main_v30 main_v72 (broadcastInDim S2x1152 ![0, 1] bcast_S1x1152_S2x1152_0_1 : (⟨S1x1152, .f32⟩ : BufTy).Contents (Elt F) → (⟨S2x1152, .f32⟩ : BufTy).Contents (Elt F)),
   StableHlo.binary main_v72 main_v71 main_v73 (subf : (⟨S2x1152, .f32⟩ : BufTy).Contents (Elt F) → (⟨S2x1152, .f32⟩ : BufTy).Contents (Elt F) → (⟨S2x1152, .f32⟩ : BufTy).Contents (Elt F)),
   StableHlo.binary main_v73 main_v73 main_v74 (mulf : (⟨S2x1152, .f32⟩ : BufTy).Contents (Elt F) → (⟨S2x1152, .f32⟩ : BufTy).Contents (Elt F) → (⟨S2x1152, .f32⟩ : BufTy).Contents (Elt F)),
   StableHlo.nullary main_cst_26 (constant S_ .f32 0x00000000#32),
   StableHlo.binary main_v74 main_cst_26 main_v75 ((fun x v => Host.reduceAdd x v reducesTo_S2x1152_S2_d1 h_S_) : (⟨S2x1152, .f32⟩ : BufTy).Contents (Elt F) → (⟨S_, .f32⟩ : BufTy).Contents (Elt F) → (⟨S2, .f32⟩ : BufTy).Contents (Elt F)),
   StableHlo.unary main_v75 main_v76 (Host.sqrt : (⟨S2, .f32⟩ : BufTy).Contents (Elt F) → (⟨S2, .f32⟩ : BufTy).Contents (Elt F)),
   StableHlo.nullary main_cst_27 (constant S_ .f32 0x44900000#32),
   StableHlo.unary main_cst_27 main_v77 (Host.sqrt : (⟨S_, .f32⟩ : BufTy).Contents (Elt F) → (⟨S_, .f32⟩ : BufTy).Contents (Elt F)),
   StableHlo.binary main_v21 main_v77 main_v78 (Host.divf : (⟨S_, .f32⟩ : BufTy).Contents (Elt F) → (⟨S_, .f32⟩ : BufTy).Contents (Elt F) → (⟨S_, .f32⟩ : BufTy).Contents (Elt F)),
   StableHlo.unary main_v78 main_v79 (Host.exp : (⟨S_, .f32⟩ : BufTy).Contents (Elt F) → (⟨S_, .f32⟩ : BufTy).Contents (Elt F)),
   StableHlo.unary main_v77 main_v80 (broadcastInDim S2 ![] bcast_S_S2 : (⟨S_, .f32⟩ : BufTy).Contents (Elt F) → (⟨S2, .f32⟩ : BufTy).Contents (Elt F)),
   StableHlo.binary main_v76 main_v80 main_v81 (Host.divf : (⟨S2, .f32⟩ : BufTy).Contents (Elt F) → (⟨S2, .f32⟩ : BufTy).Contents (Elt F) → (⟨S2, .f32⟩ : BufTy).Contents (Elt F)),
   StableHlo.unary main_v81 main_v82 (Host.exp : (⟨S2, .f32⟩ : BufTy).Contents (Elt F) → (⟨S2, .f32⟩ : BufTy).Contents (Elt F)),
   StableHlo.nullary main_cst_28 (constant S_ .f32 0x00000000#32),
   StableHlo.binary main_v82 main_cst_28 main_v83 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
   StableHlo.binary main_v79 main_v83 main_v84 (Host.divf : (⟨S_, .f32⟩ : BufTy).Contents (Elt F) → (⟨S_, .f32⟩ : BufTy).Contents (Elt F) → (⟨S_, .f32⟩ : BufTy).Contents (Elt F)),
   StableHlo.nullary main_cst_29 (constant S_ .f32 0x3F800000#32),
   StableHlo.binary main_cst_29 main_v84 main_v85 (subf : (⟨S_, .f32⟩ : BufTy).Contents (Elt F) → (⟨S_, .f32⟩ : BufTy).Contents (Elt F) → (⟨S_, .f32⟩ : BufTy).Contents (Elt F)),
   StableHlo.binary main_v85 main_v21 main_v86 (mulf : (⟨S_, .f32⟩ : BufTy).Contents (Elt F) → (⟨S_, .f32⟩ : BufTy).Contents (Elt F) → (⟨S_, .f32⟩ : BufTy).Contents (Elt F))]

/-- Operations of @main: the resize weights of the rows. -/
def opsMapA : List (HloOp τ sig (Elt F)) :=
  [StableHlo.reshape main_v18 main_v87 (rfl : (.f32 : EltTy) = .f32) shapeCasts_S3136_S1x1x56x56,
   StableHlo.nullary main_cst_30 (constant S_ .f32 0x3E800000#32),
   StableHlo.nullary main_cst_31 (constant S_ .f32 0x3F800000#32),
   StableHlo.binary main_cst_30 main_cst_31 main_v88 (maximumf : (⟨S_, .f32⟩ : BufTy).Contents (Elt F) → (⟨S_, .f32⟩ : BufTy).Contents (Elt F) → (⟨S_, .f32⟩ : BufTy).Contents (Elt F)),
   StableHlo.nullary main_v89 (sitofp .f32 (iotaInDim S224 32 0)),
   StableHlo.nullary main_cst_32 (constant S_ .f32 0x3F000000#32),
   StableHlo.unary main_cst_32 main_v90 (broadcastInDim S224 ![] bcast_S_S224 : (⟨S_, .f32⟩ : BufTy).Contents (Elt F) → (⟨S224, .f32⟩ : BufTy).Contents (Elt F)),
   StableHlo.binary main_v89 main_v90 main_v91 (addf : (⟨S224, .f32⟩ : BufTy).Contents (Elt F) → (⟨S224, .f32⟩ : BufTy).Contents (Elt F) → (⟨S224, .f32⟩ : BufTy).Contents (Elt F)),
   StableHlo.nullary main_cst_33 (constant S_ .f32 0x3E800000#32),
   StableHlo.unary main_cst_33 main_v92 (broadcastInDim S224 ![] bcast_S_S224 : (⟨S_, .f32⟩ : BufTy).Contents (Elt F) → (⟨S224, .f32⟩ : BufTy).Contents (Elt F)),
   StableHlo.binary main_v91 main_v92 main_v93 (mulf : (⟨S224, .f32⟩ : BufTy).Contents (Elt F) → (⟨S224, .f32⟩ : BufTy).Contents (Elt F) → (⟨S224, .f32⟩ : BufTy).Contents (Elt F)),
   StableHlo.nullary main_cst_34 (constant S_ .f32 0x00000000#32),
   StableHlo.unary main_cst_34 main_v94 (broadcastInDim S224 ![] bcast_S_S224 : (⟨S_, .f32⟩ : BufTy).Contents (Elt F) → (⟨S224, .f32⟩ : BufTy).Contents (Elt F)),
   StableHlo.binary main_v93 main_v94 main_v95 (subf : (⟨S224, .f32⟩ : BufTy).Contents (Elt F) → (⟨S224, .f32⟩ : BufTy).Contents (Elt F) → (⟨S224, .f32⟩ : BufTy).Contents (Elt F)),
   StableHlo.nullary main_cst_35 (constant S_ .f32 0x3F000000#32),
   StableHlo.unary main_cst_35 main_v96 (broadcastInDim S224 ![] bcast_S_S224 : (⟨S_, .f32⟩ : BufTy).Contents (Elt F) → (⟨S224, .f32⟩ : BufTy).Contents (Elt F)),
   StableHlo.binary main_v95 main_v96 main_v97 (subf : (⟨S224, .f32⟩ : BufTy).Contents (Elt F) → (⟨S224, .f32⟩ : BufTy).Contents (Elt F) → (⟨S224, .f32⟩ : BufTy).Contents (Elt F)),
   StableHlo.nullary main_v98 (sitofp .f32 (iotaInDim S56 32 0)),
   StableHlo.unary main_v97 main_v99 (broadcastInDim S1x224 ![1] bcast_S224_S1x224_1 : (⟨S224, .f32⟩ : BufTy).Contents (Elt F) → (⟨S1x224, .f32⟩ : BufTy).Contents (Elt F)),
   StableHlo.unary main_v98 main_v100 (broadcastInDim S56x1 ![0] bcast_S56_S56x1_0 : (⟨S56, .f32⟩ : BufTy).Contents (Elt F) → (⟨S56x1, .f32⟩ : BufTy).Contents (Elt F)),
   StableHlo.unary main_v99 main_v101 (broadcastInDim S56x224 ![0, 1] bcast_S1x224_S56x224_0_1 : (⟨S1x224, .f32⟩ : BufTy).Contents (Elt F) → (⟨S56x224, .f32⟩ : BufTy).Contents (Elt F)),
   StableHlo.unary main_v100 main_v102 (broadcastInDim S56x224 ![0, 1] bcast_S56x1_S56x224_0_1 : (⟨S56x1, .f32⟩ : BufTy).Contents (Elt F) → (⟨S56x224, .f32⟩ : BufTy).Contents (Elt F)),
   StableHlo.binary main_v101 main_v102 main_v103 (subf : (⟨S56x224, .f32⟩ : BufTy).Contents (Elt F) → (⟨S56x224, .f32⟩ : BufTy).Contents (Elt F) → (⟨S56x224, .f32⟩ : BufTy).Contents (Elt F)),
   StableHlo.unary main_v103 main_v104 (Host.absf : (⟨S56x224, .f32⟩ : BufTy).Contents (Elt F) → (⟨S56x224, .f32⟩ : BufTy).Contents (Elt F)),
   StableHlo.unary main_v88 main_v105 (id : (⟨S_, .f32⟩ : BufTy).Contents (Elt F) → (⟨S_, .f32⟩ : BufTy).Contents (Elt F)),
   StableHlo.unary main_v105 main_v106 (broadcastInDim S56x224 ![] bcast_S_S56x224 : (⟨S_, .f32⟩ : BufTy).Contents (Elt F) → (⟨S56x224, .f32⟩ : BufTy).Contents (Elt F)),
   StableHlo.binary main_v104 main_v106 main_v107 (Host.divf : (⟨S56x224, .f32⟩ : BufTy).Contents (Elt F) → (⟨S56x224, .f32⟩ : BufTy).Contents (Elt F) → (⟨S56x224, .f32⟩ : BufTy).Contents (Elt F)),
   StableHlo.unary main_v107 main_v108 (Host.absf : (⟨S56x224, .f32⟩ : BufTy).Contents (Elt F) → (⟨S56x224, .f32⟩ : BufTy).Contents (Elt F)),
   StableHlo.nullary main_cst_36 (constant S_ .f32 0x3F800000#32),
   StableHlo.unary main_cst_36 main_v109 (broadcastInDim S56x224 ![] bcast_S_S56x224 : (⟨S_, .f32⟩ : BufTy).Contents (Elt F) → (⟨S56x224, .f32⟩ : BufTy).Contents (Elt F)),
   StableHlo.binary main_v109 main_v108 main_v110 (subf : (⟨S56x224, .f32⟩ : BufTy).Contents (Elt F) → (⟨S56x224, .f32⟩ : BufTy).Contents (Elt F) → (⟨S56x224, .f32⟩ : BufTy).Contents (Elt F)),
   StableHlo.nullary main_cst_37 (constant S_ .f32 0x00000000#32),
   StableHlo.unary main_cst_37 main_v111 (broadcastInDim S56x224 ![] bcast_S_S56x224 : (⟨S_, .f32⟩ : BufTy).Contents (Elt F) → (⟨S56x224, .f32⟩ : BufTy).Contents (Elt F)),
   StableHlo.binary main_v111 main_v110 main_v112 (maximumf : (⟨S56x224, .f32⟩ : BufTy).Contents (Elt F) → (⟨S56x224, .f32⟩ : BufTy).Contents (Elt F) → (⟨S56x224, .f32⟩ : BufTy).Contents (Elt F)),
   StableHlo.nullary main_cst_38 (constant S_ .f32 0x00000000#32),
   StableHlo.binary main_v112 main_cst_38 main_v113 ((fun x v => Host.reduceAdd x v reducesTo_S56x224_S224_d0 h_S_) : (⟨S56x224, .f32⟩ : BufTy).Contents (Elt F) → (⟨S_, .f32⟩ : BufTy).Contents (Elt F) → (⟨S224, .f32⟩ : BufTy).Contents (Elt F)),
   StableHlo.unary main_v113 main_v114 (broadcastInDim S1x224 ![1] bcast_S224_S1x224_1 : (⟨S224, .f32⟩ : BufTy).Contents (Elt F) → (⟨S1x224, .f32⟩ : BufTy).Contents (Elt F)),
   StableHlo.unary main_v114 main_v115 (Host.absf : (⟨S1x224, .f32⟩ : BufTy).Contents (Elt F) → (⟨S1x224, .f32⟩ : BufTy).Contents (Elt F)),
   StableHlo.nullary main_cst_39 (constant S_ .f32 0x38FA0000#32),
   StableHlo.unary main_cst_39 main_v116 (broadcastInDim S1x224 ![] bcast_S_S1x224 : (⟨S_, .f32⟩ : BufTy).Contents (Elt F) → (⟨S1x224, .f32⟩ : BufTy).Contents (Elt F)),
   StableHlo.binary main_v115 main_v116 main_v117 (cmpf .ogt : (⟨S1x224, .f32⟩ : BufTy).Contents (Elt F) → (⟨S1x224, .f32⟩ : BufTy).Contents (Elt F) → (⟨S1x224, .i1⟩ : BufTy).Contents (Elt F)),
   StableHlo.nullary main_cst_40 (constant S_ .f32 0x00000000#32),
   StableHlo.unary main_cst_40 main_v118 (broadcastInDim S1x224 ![] bcast_S_S1x224 : (⟨S_, .f32⟩ : BufTy).Contents (Elt F) → (⟨S1x224, .f32⟩ : BufTy).Contents (Elt F)),
   StableHlo.binary main_v114 main_v118 main_v119 (cmpf .une : (⟨S1x224, .f32⟩ : BufTy).Contents (Elt F) → (⟨S1x224, .f32⟩ : BufTy).Contents (Elt F) → (⟨S1x224, .i1⟩ : BufTy).Contents (Elt F)),
   StableHlo.nullary main_cst_41 (constant S_ .f32 0x3F800000#32),
   StableHlo.unary main_cst_41 main_v120 (broadcastInDim S1x224 ![] bcast_S_S1x224 : (⟨S_, .f32⟩ : BufTy).Contents (Elt F) → (⟨S1x224, .f32⟩ : BufTy).Contents (Elt F)),
   StableHlo.ternary main_v119 main_v114 main_v120 main_v121 (select : (⟨S1x224, .i1⟩ : BufTy).Contents (Elt F) → (⟨S1x224, .f32⟩ : BufTy).Contents (Elt F) → (⟨S1x224, .f32⟩ : BufTy).Contents (Elt F) → (⟨S1x224, .f32⟩ : BufTy).Contents (Elt F)),
   StableHlo.unary main_v121 main_v122 (broadcastInDim S56x224 ![0, 1] bcast_S1x224_S56x224_0_1 : (⟨S1x224, .f32⟩ : BufTy).Contents (Elt F) → (⟨S56x224, .f32⟩ : BufTy).Contents (Elt F)),
   StableHlo.binary main_v112 main_v122 main_v123 (Host.divf : (⟨S56x224, .f32⟩ : BufTy).Contents (Elt F) → (⟨S56x224, .f32⟩ : BufTy).Contents (Elt F) → (⟨S56x224, .f32⟩ : BufTy).Contents (Elt F)),
   StableHlo.unary main_v117 main_v124 (broadcastInDim S56x224 ![0, 1] bcast_S1x224_S56x224_0_1 : (⟨S1x224, .i1⟩ : BufTy).Contents (Elt F) → (⟨S56x224, .i1⟩ : BufTy).Contents (Elt F)),
   StableHlo.nullary main_cst_42 (constant S_ .f32 0x00000000#32),
   StableHlo.unary main_cst_42 main_v125 (broadcastInDim S56x224 ![] bcast_S_S56x224 : (⟨S_, .f32⟩ : BufTy).Contents (Elt F) → (⟨S56x224, .f32⟩ : BufTy).Contents (Elt F)),
   StableHlo.ternary main_v124 main_v123 main_v125 main_v126 (select : (⟨S56x224, .i1⟩ : BufTy).Contents (Elt F) → (⟨S56x224, .f32⟩ : BufTy).Contents (Elt F) → (⟨S56x224, .f32⟩ : BufTy).Contents (Elt F) → (⟨S56x224, .f32⟩ : BufTy).Contents (Elt F)),
   StableHlo.nullary main_cst_43 (constant S_ .f32 0xBF000000#32),
   StableHlo.unary main_cst_43 main_v127 (broadcastInDim S224 ![] bcast_S_S224 : (⟨S_, .f32⟩ : BufTy).Contents (Elt F) → (⟨S224, .f32⟩ : BufTy).Contents (Elt F)),
   StableHlo.binary main_v97 main_v127 main_v128 (cmpf .oge : (⟨S224, .f32⟩ : BufTy).Contents (Elt F) → (⟨S224, .f32⟩ : BufTy).Contents (Elt F) → (⟨S224, .i1⟩ : BufTy).Contents (Elt F)),
   StableHlo.nullary main_cst_44 (constant S_ .f32 0x425E0000#32),
   StableHlo.unary main_cst_44 main_v129 (broadcastInDim S224 ![] bcast_S_S224 : (⟨S_, .f32⟩ : BufTy).Contents (Elt F) → (⟨S224, .f32⟩ : BufTy).Contents (Elt F)),
   StableHlo.binary main_v97 main_v129 main_v130 (cmpf .ole : (⟨S224, .f32⟩ : BufTy).Contents (Elt F) → (⟨S224, .f32⟩ : BufTy).Contents (Elt F) → (⟨S224, .i1⟩ : BufTy).Contents (Elt F)),
   StableHlo.binary main_v128 main_v130 main_v131 (andi : (⟨S224, .i1⟩ : BufTy).Contents (Elt F) → (⟨S224, .i1⟩ : BufTy).Contents (Elt F) → (⟨S224, .i1⟩ : BufTy).Contents (Elt F)),
   StableHlo.unary main_v131 main_v132 (broadcastInDim S1x224 ![1] bcast_S224_S1x224_1 : (⟨S224, .i1⟩ : BufTy).Contents (Elt F) → (⟨S1x224, .i1⟩ : BufTy).Contents (Elt F)),
   StableHlo.unary main_v132 main_v133 (broadcastInDim S56x224 ![0, 1] bcast_S1x224_S56x224_0_1 : (⟨S1x224, .i1⟩ : BufTy).Contents (Elt F) → (⟨S56x224, .i1⟩ : BufTy).Contents (Elt F)),
   StableHlo.nullary main_cst_45 (constant S_ .f32 0x00000000#32),
   StableHlo.unary main_cst_45 main_v134 (broadcastInDim S56x224 ![] bcast_S_S56x224 : (⟨S_, .f32⟩ : BufTy).Contents (Elt F) → (⟨S56x224, .f32⟩ : BufTy).Contents (Elt F)),
   StableHlo.ternary main_v133 main_v126 main_v134 main_v135 (select : (⟨S56x224, .i1⟩ : BufTy).Contents (Elt F) → (⟨S56x224, .f32⟩ : BufTy).Contents (Elt F) → (⟨S56x224, .f32⟩ : BufTy).Contents (Elt F) → (⟨S56x224, .f32⟩ : BufTy).Contents (Elt F))]

/-- Operations of @main: the resize weights of the columns. -/
def opsMapB : List (HloOp τ sig (Elt F)) :=
  [StableHlo.nullary main_cst_46 (constant S_ .f32 0x3E800000#32),
   StableHlo.nullary main_cst_47 (constant S_ .f32 0x3F800000#32),
   StableHlo.binary main_cst_46 main_cst_47 main_v136 (maximumf : (⟨S_, .f32⟩ : BufTy).Contents (Elt F) → (⟨S_, .f32⟩ : BufTy).Contents (Elt F) → (⟨S_, .f32⟩ : BufTy).Contents (Elt F)),
   StableHlo.nullary main_v137 (sitofp .f32 (iotaInDim S224 32 0)),
   StableHlo.nullary main_cst_48 (constant S_ .f32 0x3F000000#32),
   StableHlo.unary main_cst_48 main_v138 (broadcastInDim S224 ![] bcast_S_S224 : (⟨S_, .f32⟩ : BufTy).Contents (Elt F) → (⟨S224, .f32⟩ : BufTy).Contents (Elt F)),
   StableHlo.binary main_v137 main_v138 main_v139 (addf : (⟨S224, .f32⟩ : BufTy).Contents (Elt F) → (⟨S224, .f32⟩ : BufTy).Contents (Elt F) → (⟨S224, .f32⟩ : BufTy).Contents (Elt F)),
   StableHlo.nullary main_cst_49 (constant S_ .f32 0x3E800000#32),
   StableHlo.unary main_cst_49 main_v140 (broadcastInDim S224 ![] bcast_S_S224 : (⟨S_, .f32⟩ : BufTy).Contents (Elt F) → (⟨S224, .f32⟩ : BufTy).Contents (Elt F)),
   StableHlo.binary main_v139 main_v140 main_v141 (mulf : (⟨S224, .f32⟩ : BufTy).Contents (Elt F) → (⟨S224, .f32⟩ : BufTy).Contents (Elt F) → (⟨S224, .f32⟩ : BufTy).Contents (Elt F)),
   StableHlo.nullary main_cst_50 (constant S_ .f32 0x00000000#32),
   StableHlo.unary main_cst_50 main_v142 (broadcastInDim S224 ![] bcast_S_S224 : (⟨S_, .f32⟩ : BufTy).Contents (Elt F) → (⟨S224, .f32⟩ : BufTy).Contents (Elt F)),
   StableHlo.binary main_v141 main_v142 main_v143 (subf : (⟨S224, .f32⟩ : BufTy).Contents (Elt F) → (⟨S224, .f32⟩ : BufTy).Contents (Elt F) → (⟨S224, .f32⟩ : BufTy).Contents (Elt F)),
   StableHlo.nullary main_cst_51 (constant S_ .f32 0x3F000000#32),
   StableHlo.unary main_cst_51 main_v144 (broadcastInDim S224 ![] bcast_S_S224 : (⟨S_, .f32⟩ : BufTy).Contents (Elt F) → (⟨S224, .f32⟩ : BufTy).Contents (Elt F)),
   StableHlo.binary main_v143 main_v144 main_v145 (subf : (⟨S224, .f32⟩ : BufTy).Contents (Elt F) → (⟨S224, .f32⟩ : BufTy).Contents (Elt F) → (⟨S224, .f32⟩ : BufTy).Contents (Elt F)),
   StableHlo.nullary main_v146 (sitofp .f32 (iotaInDim S56 32 0)),
   StableHlo.unary main_v145 main_v147 (broadcastInDim S1x224 ![1] bcast_S224_S1x224_1 : (⟨S224, .f32⟩ : BufTy).Contents (Elt F) → (⟨S1x224, .f32⟩ : BufTy).Contents (Elt F)),
   StableHlo.unary main_v146 main_v148 (broadcastInDim S56x1 ![0] bcast_S56_S56x1_0 : (⟨S56, .f32⟩ : BufTy).Contents (Elt F) → (⟨S56x1, .f32⟩ : BufTy).Contents (Elt F)),
   StableHlo.unary main_v147 main_v149 (broadcastInDim S56x224 ![0, 1] bcast_S1x224_S56x224_0_1 : (⟨S1x224, .f32⟩ : BufTy).Contents (Elt F) → (⟨S56x224, .f32⟩ : BufTy).Contents (Elt F)),
   StableHlo.unary main_v148 main_v150 (broadcastInDim S56x224 ![0, 1] bcast_S56x1_S56x224_0_1 : (⟨S56x1, .f32⟩ : BufTy).Contents (Elt F) → (⟨S56x224, .f32⟩ : BufTy).Contents (Elt F)),
   StableHlo.binary main_v149 main_v150 main_v151 (subf : (⟨S56x224, .f32⟩ : BufTy).Contents (Elt F) → (⟨S56x224, .f32⟩ : BufTy).Contents (Elt F) → (⟨S56x224, .f32⟩ : BufTy).Contents (Elt F)),
   StableHlo.unary main_v151 main_v152 (Host.absf : (⟨S56x224, .f32⟩ : BufTy).Contents (Elt F) → (⟨S56x224, .f32⟩ : BufTy).Contents (Elt F)),
   StableHlo.unary main_v136 main_v153 (id : (⟨S_, .f32⟩ : BufTy).Contents (Elt F) → (⟨S_, .f32⟩ : BufTy).Contents (Elt F)),
   StableHlo.unary main_v153 main_v154 (broadcastInDim S56x224 ![] bcast_S_S56x224 : (⟨S_, .f32⟩ : BufTy).Contents (Elt F) → (⟨S56x224, .f32⟩ : BufTy).Contents (Elt F)),
   StableHlo.binary main_v152 main_v154 main_v155 (Host.divf : (⟨S56x224, .f32⟩ : BufTy).Contents (Elt F) → (⟨S56x224, .f32⟩ : BufTy).Contents (Elt F) → (⟨S56x224, .f32⟩ : BufTy).Contents (Elt F)),
   StableHlo.unary main_v155 main_v156 (Host.absf : (⟨S56x224, .f32⟩ : BufTy).Contents (Elt F) → (⟨S56x224, .f32⟩ : BufTy).Contents (Elt F)),
   StableHlo.nullary main_cst_52 (constant S_ .f32 0x3F800000#32),
   StableHlo.unary main_cst_52 main_v157 (broadcastInDim S56x224 ![] bcast_S_S56x224 : (⟨S_, .f32⟩ : BufTy).Contents (Elt F) → (⟨S56x224, .f32⟩ : BufTy).Contents (Elt F)),
   StableHlo.binary main_v157 main_v156 main_v158 (subf : (⟨S56x224, .f32⟩ : BufTy).Contents (Elt F) → (⟨S56x224, .f32⟩ : BufTy).Contents (Elt F) → (⟨S56x224, .f32⟩ : BufTy).Contents (Elt F)),
   StableHlo.nullary main_cst_53 (constant S_ .f32 0x00000000#32),
   StableHlo.unary main_cst_53 main_v159 (broadcastInDim S56x224 ![] bcast_S_S56x224 : (⟨S_, .f32⟩ : BufTy).Contents (Elt F) → (⟨S56x224, .f32⟩ : BufTy).Contents (Elt F)),
   StableHlo.binary main_v159 main_v158 main_v160 (maximumf : (⟨S56x224, .f32⟩ : BufTy).Contents (Elt F) → (⟨S56x224, .f32⟩ : BufTy).Contents (Elt F) → (⟨S56x224, .f32⟩ : BufTy).Contents (Elt F)),
   StableHlo.nullary main_cst_54 (constant S_ .f32 0x00000000#32),
   StableHlo.binary main_v160 main_cst_54 main_v161 ((fun x v => Host.reduceAdd x v reducesTo_S56x224_S224_d0 h_S_) : (⟨S56x224, .f32⟩ : BufTy).Contents (Elt F) → (⟨S_, .f32⟩ : BufTy).Contents (Elt F) → (⟨S224, .f32⟩ : BufTy).Contents (Elt F)),
   StableHlo.unary main_v161 main_v162 (broadcastInDim S1x224 ![1] bcast_S224_S1x224_1 : (⟨S224, .f32⟩ : BufTy).Contents (Elt F) → (⟨S1x224, .f32⟩ : BufTy).Contents (Elt F)),
   StableHlo.unary main_v162 main_v163 (Host.absf : (⟨S1x224, .f32⟩ : BufTy).Contents (Elt F) → (⟨S1x224, .f32⟩ : BufTy).Contents (Elt F)),
   StableHlo.nullary main_cst_55 (constant S_ .f32 0x38FA0000#32),
   StableHlo.unary main_cst_55 main_v164 (broadcastInDim S1x224 ![] bcast_S_S1x224 : (⟨S_, .f32⟩ : BufTy).Contents (Elt F) → (⟨S1x224, .f32⟩ : BufTy).Contents (Elt F)),
   StableHlo.binary main_v163 main_v164 main_v165 (cmpf .ogt : (⟨S1x224, .f32⟩ : BufTy).Contents (Elt F) → (⟨S1x224, .f32⟩ : BufTy).Contents (Elt F) → (⟨S1x224, .i1⟩ : BufTy).Contents (Elt F)),
   StableHlo.nullary main_cst_56 (constant S_ .f32 0x00000000#32),
   StableHlo.unary main_cst_56 main_v166 (broadcastInDim S1x224 ![] bcast_S_S1x224 : (⟨S_, .f32⟩ : BufTy).Contents (Elt F) → (⟨S1x224, .f32⟩ : BufTy).Contents (Elt F)),
   StableHlo.binary main_v162 main_v166 main_v167 (cmpf .une : (⟨S1x224, .f32⟩ : BufTy).Contents (Elt F) → (⟨S1x224, .f32⟩ : BufTy).Contents (Elt F) → (⟨S1x224, .i1⟩ : BufTy).Contents (Elt F)),
   StableHlo.nullary main_cst_57 (constant S_ .f32 0x3F800000#32),
   StableHlo.unary main_cst_57 main_v168 (broadcastInDim S1x224 ![] bcast_S_S1x224 : (⟨S_, .f32⟩ : BufTy).Contents (Elt F) → (⟨S1x224, .f32⟩ : BufTy).Contents (Elt F)),
   StableHlo.ternary main_v167 main_v162 main_v168 main_v169 (select : (⟨S1x224, .i1⟩ : BufTy).Contents (Elt F) → (⟨S1x224, .f32⟩ : BufTy).Contents (Elt F) → (⟨S1x224, .f32⟩ : BufTy).Contents (Elt F) → (⟨S1x224, .f32⟩ : BufTy).Contents (Elt F)),
   StableHlo.unary main_v169 main_v170 (broadcastInDim S56x224 ![0, 1] bcast_S1x224_S56x224_0_1 : (⟨S1x224, .f32⟩ : BufTy).Contents (Elt F) → (⟨S56x224, .f32⟩ : BufTy).Contents (Elt F)),
   StableHlo.binary main_v160 main_v170 main_v171 (Host.divf : (⟨S56x224, .f32⟩ : BufTy).Contents (Elt F) → (⟨S56x224, .f32⟩ : BufTy).Contents (Elt F) → (⟨S56x224, .f32⟩ : BufTy).Contents (Elt F)),
   StableHlo.unary main_v165 main_v172 (broadcastInDim S56x224 ![0, 1] bcast_S1x224_S56x224_0_1 : (⟨S1x224, .i1⟩ : BufTy).Contents (Elt F) → (⟨S56x224, .i1⟩ : BufTy).Contents (Elt F)),
   StableHlo.nullary main_cst_58 (constant S_ .f32 0x00000000#32),
   StableHlo.unary main_cst_58 main_v173 (broadcastInDim S56x224 ![] bcast_S_S56x224 : (⟨S_, .f32⟩ : BufTy).Contents (Elt F) → (⟨S56x224, .f32⟩ : BufTy).Contents (Elt F)),
   StableHlo.ternary main_v172 main_v171 main_v173 main_v174 (select : (⟨S56x224, .i1⟩ : BufTy).Contents (Elt F) → (⟨S56x224, .f32⟩ : BufTy).Contents (Elt F) → (⟨S56x224, .f32⟩ : BufTy).Contents (Elt F) → (⟨S56x224, .f32⟩ : BufTy).Contents (Elt F)),
   StableHlo.nullary main_cst_59 (constant S_ .f32 0xBF000000#32),
   StableHlo.unary main_cst_59 main_v175 (broadcastInDim S224 ![] bcast_S_S224 : (⟨S_, .f32⟩ : BufTy).Contents (Elt F) → (⟨S224, .f32⟩ : BufTy).Contents (Elt F)),
   StableHlo.binary main_v145 main_v175 main_v176 (cmpf .oge : (⟨S224, .f32⟩ : BufTy).Contents (Elt F) → (⟨S224, .f32⟩ : BufTy).Contents (Elt F) → (⟨S224, .i1⟩ : BufTy).Contents (Elt F)),
   StableHlo.nullary main_cst_60 (constant S_ .f32 0x425E0000#32),
   StableHlo.unary main_cst_60 main_v177 (broadcastInDim S224 ![] bcast_S_S224 : (⟨S_, .f32⟩ : BufTy).Contents (Elt F) → (⟨S224, .f32⟩ : BufTy).Contents (Elt F)),
   StableHlo.binary main_v145 main_v177 main_v178 (cmpf .ole : (⟨S224, .f32⟩ : BufTy).Contents (Elt F) → (⟨S224, .f32⟩ : BufTy).Contents (Elt F) → (⟨S224, .i1⟩ : BufTy).Contents (Elt F)),
   StableHlo.binary main_v176 main_v178 main_v179 (andi : (⟨S224, .i1⟩ : BufTy).Contents (Elt F) → (⟨S224, .i1⟩ : BufTy).Contents (Elt F) → (⟨S224, .i1⟩ : BufTy).Contents (Elt F)),
   StableHlo.unary main_v179 main_v180 (broadcastInDim S1x224 ![1] bcast_S224_S1x224_1 : (⟨S224, .i1⟩ : BufTy).Contents (Elt F) → (⟨S1x224, .i1⟩ : BufTy).Contents (Elt F)),
   StableHlo.unary main_v180 main_v181 (broadcastInDim S56x224 ![0, 1] bcast_S1x224_S56x224_0_1 : (⟨S1x224, .i1⟩ : BufTy).Contents (Elt F) → (⟨S56x224, .i1⟩ : BufTy).Contents (Elt F)),
   StableHlo.nullary main_cst_61 (constant S_ .f32 0x00000000#32),
   StableHlo.unary main_cst_61 main_v182 (broadcastInDim S56x224 ![] bcast_S_S56x224 : (⟨S_, .f32⟩ : BufTy).Contents (Elt F) → (⟨S56x224, .f32⟩ : BufTy).Contents (Elt F)),
   StableHlo.ternary main_v181 main_v174 main_v182 main_v183 (select : (⟨S56x224, .i1⟩ : BufTy).Contents (Elt F) → (⟨S56x224, .f32⟩ : BufTy).Contents (Elt F) → (⟨S56x224, .f32⟩ : BufTy).Contents (Elt F) → (⟨S56x224, .f32⟩ : BufTy).Contents (Elt F))]

/-- Operations of @main: the two products of the resize. -/
def opsMap : List (HloOp τ sig (Elt F)) :=
  [StableHlo.binary main_v135 main_v87 main_v184 ((fun l r => Host.dotGeneral dot_S56x224_S1x1x56x56_S224x1x1x56_0_2_1_013_n_n (some .fp32) l r) : (⟨S56x224, .f32⟩ : BufTy).Contents (Elt F) → (⟨S1x1x56x56, .f32⟩ : BufTy).Contents (Elt F) → (⟨S224x1x1x56, .f32⟩ : BufTy).Contents (Elt F)),
   StableHlo.binary main_v184 main_v183 main_v185 ((fun l r => Host.dotGeneral dot_S224x1x1x56_S56x224_S224x1x1x224_3_0_012_1_n_n (some .fp32) l r) : (⟨S224x1x1x56, .f32⟩ : BufTy).Contents (Elt F) → (⟨S56x224, .f32⟩ : BufTy).Contents (Elt F) → (⟨S224x1x1x224, .f32⟩ : BufTy).Contents (Elt F)),
   StableHlo.unary main_v185 main_v186 ((transpose S1x1x224x224 [1, 2, 0, 3] · transposes_S224x1x1x224_S1x1x224x224_1_2_0_3) : (⟨S224x1x1x224, .f32⟩ : BufTy).Contents (Elt F) → (⟨S1x1x224x224, .f32⟩ : BufTy).Contents (Elt F))]

/-- All of them, in order. -/
abbrev refOps : List (HloOp τ sig (Elt F)) := opsDist ++ (opsPick ++ (opsRows ++ (opsTop ++ (opsNext ++ (opsScore ++ (opsMapA ++ (opsMapB ++ opsMap)))))))

set_option maxHeartbeats 4000000 in
/-- @main runs these operations. -/
theorem main_seq (d : Dev nD) : main (F := F) d = StableHlo.seq refOps := rfl

end Cert.ReferenceIdeal.Hand

end
-- ==== Proof.RefRun.lean ====
/- The run of the reference: every buffer ends at what its operations leave of the launch contents, and its arguments are not among the
   buffers written. -/
module

public import proofs.«01_k».proof.Proof.RefOps
public import Idealize.ShloMosaic.Lib.Quiescent

@[expose] public section

set_option maxRecDepth 16384

noncomputable section

namespace Cert.ReferenceIdeal.Hand

open Cert.ReferenceIdeal Cert.ReferenceIdeal.Gen Cert.ReferenceIdeal.Facts
open Idealize.ShloMosaic Idealize.ShloMosaic.TcCoe Idealize.SL.Sem
open Idealize.ShloMosaic.StableHlo

variable {F : FTy → Type} [FloatOps F]

/-- What holds of every operation of every stage holds of every operation of @main. -/
theorem forall_refOps {p : HloOp τ sig (Elt F) → Prop} (h₁ : opsDist.Forall p) (h₂ : opsPick.Forall p) (h₈ : opsRows.Forall p) (h₃ : opsTop.Forall p)
    (h₉ : opsNext.Forall p) (h₄ : opsScore.Forall p) (h₅ : opsMapA.Forall p) (h₆ : opsMapB.Forall p) (h₇ : opsMap.Forall p) : (refOps (F := F)).Forall p := by
  simp only [List.forall_iff_forall_mem] at *
  intro op h
  simp only [refOps, List.mem_append] at h
  rcases h with h | h | h | h | h | h | h | h | h
  exacts [h₁ op h, h₂ op h, h₈ op h, h₃ op h, h₉ op h, h₄ op h, h₅ op h, h₆ op h, h₇ op h]

theorem refOps_sub : (refOps (F := F)).Forall fun op => op.bufs ⊆ tcRefs τ sig := by
  refine forall_refOps ?_ ?_ ?_ ?_ ?_ ?_ ?_ ?_ ?_ <;>
    (simp only [opsDist, opsPick, opsRows, opsTop, opsNext, opsScore, opsMapA, opsMapB, opsMap, List.Forall]
     repeat' apply And.intro
     all_goals first
       | with_reducible exact nullary_bufs_sub .. | with_reducible exact unary_bufs_sub .. | with_reducible exact binary_bufs_sub ..
       | with_reducible exact reshape_bufs_sub .. | with_reducible exact unaryIndexed_bufs_sub .. | with_reducible exact ternary_bufs_sub ..
       | with_reducible exact quaternary_bufs_sub .. | exact trivial)

theorem refOps_fresh : (refOps (F := F)).Forall fun op => op.fresh = ∅ := by
  refine forall_refOps ?_ ?_ ?_ ?_ ?_ ?_ ?_ ?_ ?_ <;>
    (simp only [opsDist, opsPick, opsRows, opsTop, opsNext, opsScore, opsMapA, opsMapB, opsMap, List.Forall]; repeat' constructor)

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after refOps (launchContents m d) (Proc.devRef .tc b) :=
  run_seq (by decide) (by decide) defs main (fun _ => refOps) main_seq (fun _ => refOps_sub) m ρ
    (fun _ op h => (List.forall_iff_forall_mem.mp refOps_fresh) op h)

theorem after_arg0 (V : Valuation τ sig (Elt F)) : after refOps V (Proc.devRef .tc main_arg0) = V (Proc.devRef .tc main_arg0) := by
  simp only [refOps, after_append]
  simp only [opsDist, opsPick, opsRows, opsTop, opsNext, opsScore, opsMapA, opsMapB, opsMap]
  after_reads_simp

theorem after_arg1 (V : Valuation τ sig (Elt F)) : after refOps V (Proc.devRef .tc main_arg1) = V (Proc.devRef .tc main_arg1) := by
  simp only [refOps, after_append]
  simp only [opsDist, opsPick, opsRows, opsTop, opsNext, opsScore, opsMapA, opsMapB, opsMap]
  after_reads_simp

/-- The frame: the arguments end as launched, every semaphore at zero. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs (onTc main) _).mono (fun r h => ⟨fun c => ⟨(h c main_arg0).trans (after_arg0 _), (h c main_arg1).trans (after_arg1 _)⟩,
    sem_eq_zero_of_no_sems (by decide) _⟩) (run m ρ)

end Cert.ReferenceIdeal.Hand

end
-- ==== Proof.Arg.lean ====
/- The reference's argmin and argmax over the extended reals: each gives the first position of the least or greatest entry. -/
module

public import proofs.«01_k».proof.Proof.RefRun
public import proofs.«01_k».proof.Proof.Words
public import Idealize.ShloMosaic.Lib.IdealHost

@[expose] public section

set_option maxRecDepth 16384

noncomputable section

namespace Cert.ReferenceIdeal.Hand

open Cert.ReferenceIdeal Cert.ReferenceIdeal.Gen Cert.ReferenceIdeal.Facts Cert.Model
open Idealize.ShloMosaic Idealize.ShloMosaic.TcCoe Idealize.ShloMosaic.Tactic Idealize.ShloMosaic.StableHlo Idealize.SL.Sem

/-- A pair of an entry and its position comes no later than another: its entry, read by `σ`, is smaller, or the same and the position no later. -/
def Before (σ : EReal → EReal) (p q : EReal × BitVec 32) : Prop := σ p.1 < σ q.1 ∨ (σ p.1 = σ q.1 ∧ p.2.toInt ≤ q.2.toInt)

theorem Before.refl (σ : EReal → EReal) (p : EReal × BitVec 32) : Before σ p p := Or.inr ⟨rfl, le_rfl⟩

theorem Before.trans {σ : EReal → EReal} {p q r : EReal × BitVec 32} (h : Before σ p q) (h' : Before σ q r) : Before σ p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A step that keeps one of its two pairs, and one that comes no later than either. -/
def Keeps (σ : EReal → EReal) (g : EReal × BitVec 32 → EReal × BitVec 32 → EReal × BitVec 32) : Prop :=
  ∀ a b, (g a b = a ∨ g a b = b) ∧ Before σ (g a b) a ∧ Before σ (g a b) b

/-- Folding such a step along a list ends at a pair of the list, or at the start, that comes no later than any of them. -/
theorem fold_keeps {σ : EReal → EReal} {g : EReal × BitVec 32 → EReal × BitVec 32 → EReal × BitVec 32} (hg : Keeps σ g)
    (l : List (EReal × BitVec 32)) (a : EReal × BitVec 32) :
    (l.foldl g a = a ∨ l.foldl g a ∈ l) ∧ Before σ (l.foldl g a) a ∧ ∀ p ∈ l, Before σ (l.foldl g a) p := by
  induction l generalizing a with
  | nil => exact ⟨Or.inl rfl, Before.refl σ a, fun p hp => absurd hp List.not_mem_nil⟩
  | cons b l ih =>
    obtain ⟨hm, ha, hl⟩ := ih (g a b)
    obtain ⟨hg1, hga, hgb⟩ := hg a b
    refine ⟨?_, ha.trans hga, fun p hp => ?_⟩
    · rcases hm with hm | hm
      · rcases hg1 with h | h
        · exact Or.inl (hm.trans h)
        · refine Or.inr ?_
          rw [List.foldl_cons, hm, h]
          exact List.mem_cons_self
      · exact Or.inr (List.mem_cons_of_mem _ hm)
    · rcases List.mem_cons.mp hp with rfl | hp
      · exact ha.trans hgb
      · exact hl p hp

/-- Over the pairs of a table's entries and their positions, from a start that is no smaller than any, the fold ends at the first least position. -/
theorem fold_first {n : ℕ} (hn : n < 2 ^ 31) {σ : EReal → EReal} {g : EReal × BitVec 32 → EReal × BitVec 32 → EReal × BitVec 32} (hg : Keeps σ g)
    (f : Fin n → EReal) (l : List (EReal × BitVec 32)) (hl : ∀ p, p ∈ l ↔ ∃ k : Fin n, p = (f k, BitVec.ofNat 32 k.val)) (e : EReal) (he : σ e = ⊤)
    (k : Fin n) (hk : FirstMin (fun k => σ (f k)) k) : (l.foldl g (e, 0#32)).2 = BitVec.ofNat 32 k.val := by
  obtain ⟨hm, -, hb⟩ := fold_keeps hg l (e, 0#32)
  have hb := hb _ ((hl _).mpr ⟨k, rfl⟩)
  have hkn := k.isLt
  rcases hm with hm | hm
  · rw [hm] at hb ⊢
    rcases hb with hb | ⟨hb, -⟩
    · dsimp only at hb
      rw [he] at hb
      exact absurd hb not_top_lt
    · dsimp only at hb ⊢
      rw [he] at hb
      have h0 : k.val = 0 := by
        by_contra h0
        have := hk.2 ⟨0, by omega⟩ (Fin.lt_def.mpr (by show 0 < k.val; omega))
        dsimp only at this
        rw [← hb] at this
        exact not_top_lt this
      rw [h0]
  · obtain ⟨x, hx⟩ := (hl _).mp hm
    rw [hx] at hb ⊢
    have hxn := x.isLt
    rcases hb with hb | ⟨hb, hi⟩
    · exact absurd hb (not_lt.mpr (hk.1 x))
    · dsimp only at hb hi ⊢
      rw [toInt_word (by omega), toInt_word (by omega)] at hi
      rcases Nat.lt_or_ge x.val k.val with h | h
      · have := hk.2 x (Fin.lt_def.mpr h)
        dsimp only at this
        rw [hb] at this
        exact absurd this (lt_irrefl _)
      · rw [show x.val = k.val by omega]

theorem slt_iff (i j : BitVec 32) : IntOp.cmpi .slt i j = BitVec.ofBool (decide (i.toInt < j.toInt)) := by
  show BitVec.ofBool (i.slt j) = _
  rw [BitVec.slt_eq_decide]

/-- A step of the argmin. -/
theorem argmin_step (a b : EReal × BitVec 32) :
    reducer_argmin_f32_i32 (F := Ideal) a b = if a.1 < b.1 ∨ (a.1 = b.1 ∧ a.2.toInt < b.2.toInt) then a else b := by
  obtain ⟨a, i⟩ := a
  obtain ⟨b, j⟩ := b
  unfold reducer_argmin_f32_i32
  simp only [slt_iff, Ideal.cmpf_def, Ideal.cmp]
  rcases lt_trichotomy a b with h | h | h
  · simp [h, h.ne, h.not_gt, IntOp.ori, IntOp.andi, Scalar.select]
  · subst h
    by_cases hi : i.toInt < j.toInt <;> simp [hi, IntOp.ori, IntOp.andi, Scalar.select]
  · simp [h, h.ne', h.not_gt, IntOp.ori, IntOp.andi, Scalar.select]

/-- A step of the argmax. -/
theorem argmax_step (a b : EReal × BitVec 32) :
    reducer_argmax_f32_i32 (F := Ideal) a b = if b.1 < a.1 ∨ (a.1 = b.1 ∧ a.2.toInt < b.2.toInt) then a else b := by
  obtain ⟨a, i⟩ := a
  obtain ⟨b, j⟩ := b
  unfold reducer_argmax_f32_i32
  simp only [slt_iff, Ideal.cmpf_def, Ideal.cmp]
  rcases lt_trichotomy a b with h | h | h
  · simp [h, h.ne, h.not_gt, IntOp.ori, IntOp.andi, Scalar.select]
  · subst h
    by_cases hi : i.toInt < j.toInt <;> simp [hi, IntOp.ori, IntOp.andi, Scalar.select]
  · simp [h, h.ne', h.not_gt, IntOp.ori, IntOp.andi, Scalar.select]

theorem argmin_keeps : Keeps id (reducer_argmin_f32_i32 (F := Ideal)) := fun a b => by
  rw [argmin_step]
  split_ifs with h
  · exact ⟨Or.inl rfl, Before.refl _ a, h.imp id fun h => ⟨h.1, h.2.le⟩⟩
  · refine ⟨Or.inr rfl, ?_, Before.refl _ b⟩
    rw [not_or, not_and, not_lt, not_lt] at h
    rcases h.1.lt_or_eq with h1 | h1
    · exact Or.inl h1
    · exact Or.inr ⟨h1, h.2 h1.symm⟩

theorem argmax_keeps : Keeps (fun x => -x) (reducer_argmax_f32_i32 (F := Ideal)) := fun a b => by
  rw [argmax_step]
  split_ifs with h
  · exact ⟨Or.inl rfl, Before.refl _ a, h.imp EReal.neg_lt_neg_iff.mpr fun h => ⟨congrArg _ h.1, h.2.le⟩⟩
  · refine ⟨Or.inr rfl, ?_, Before.refl _ b⟩
    rw [not_or, not_and, not_lt, not_lt] at h
    rcases h.1.lt_or_eq with h1 | h1
    · exact Or.inl (EReal.neg_lt_neg_iff.mpr h1)
    · exact Or.inr ⟨congrArg _ h1.symm, h.2 h1⟩

/-- The argmin along each row of a table. -/
theorem argmin_eq (d : FVec Ideal S3136x16384 .f32) (r : Fin 3136) (k : Fin 16384) (hk : FirstMin (fun x : Fin 16384 => d (ix2 r x)) k) :
    (Host.argReduce reducer_argmin_f32_i32 d (iotaInDim S3136x16384 32 1) (constant (F := Ideal) S_ .f32 0x7F800000#32) (constantI S_ 32 0#32)
      reducesTo_S3136x16384_S3136_d1 h_S_ (ix1 r)).2 = BitVec.ofNat 32 k.val := by
  rw [Ideal.argReduce_eq_reduce2, Host.reduce2_eq_foldl_fiber]
  refine fold_first (by decide) argmin_keeps (fun x : Fin 16384 => d (ix2 r x)) _ (fun p => ?_) _ bits_top k hk
  unfold Host.argReduceFiber
  simp only [List.mem_map, List.mem_filter, List.mem_finRange, true_and, decide_eq_true_eq]
  constructor
  · rintro ⟨n, hn, rfl⟩
    obtain ⟨x, hx⟩ := (reducesTo_S3136x16384_S3136_d1.fiber_r2_a1 (ix1 r) _).mp hn
    exact ⟨x, by rw [← hx]; rfl⟩
  · rintro ⟨x, rfl⟩
    refine ⟨S3136x16384.rowMajor (ix2 r x), ?_, ?_⟩
    · rw [Equiv.symm_apply_apply]
      exact (reducesTo_S3136x16384_S3136_d1.fiber_r2_a1 (ix1 r) _).mpr ⟨x, rfl⟩
    · rw [Equiv.symm_apply_apply]; rfl

/-- The argmax of a list. -/
theorem argmax_eq (d : FVec Ideal S3136 .f32) (k : Fin 3136) (hk : FirstMax (fun x : Fin 3136 => d (ix1 x)) k) :
    (Host.argReduce reducer_argmax_f32_i32 d (iotaInDim S3136 32 0) (constant (F := Ideal) S_ .f32 0xFF800000#32) (constantI S_ 32 0#32)
      reducesTo_S3136_S_d0 h_S_ ix0).2 = BitVec.ofNat 32 k.val := by
  rw [Ideal.argReduce_eq_reduce2, Host.reduce2_eq_foldl_fiber]
  refine fold_first (by decide) argmax_keeps (fun x : Fin 3136 => d (ix1 x)) _ (fun p => ?_) _ ?_ k hk.neg
  · unfold Host.argReduceFiber
    simp only [List.mem_map, List.mem_filter, List.mem_finRange, true_and, decide_eq_true_eq]
    constructor
    · rintro ⟨n, hn, rfl⟩
      obtain ⟨x, hx⟩ := (reducesTo_S3136_S_d0.fiber_r1_a0 ix0 _).mp hn
      exact ⟨x, by rw [← hx]; rfl⟩
    · rintro ⟨x, rfl⟩
      refine ⟨S3136.rowMajor (ix1 x), ?_, ?_⟩
      · rw [Equiv.symm_apply_apply]
        exact (reducesTo_S3136_S_d0.fiber_r1_a0 ix0 _).mpr ⟨x, rfl⟩
      · rw [Equiv.symm_apply_apply]; rfl
  · show -(Ideal.ofBits .f32 0xFF800000#32) = ⊤
    rw [bits_bot]; rfl

end Cert.ReferenceIdeal.Hand

end
-- ==== Proof.RefPick.lean ====
/- The reference's hardest patch and the library row nearest to it: which they are, and the rows themselves. -/
module

public import proofs.«01_k».proof.Proof.Arg
public import Idealize.ShloMosaic.Lib.DynamicIndex

@[expose] public section

set_option maxRecDepth 16384

noncomputable section

namespace Cert.ReferenceIdeal.Hand

open Cert.ReferenceIdeal Cert.ReferenceIdeal.Gen Cert.ReferenceIdeal.Facts Cert.Model
open Idealize.ShloMosaic Idealize.ShloMosaic.TcCoe Idealize.ShloMosaic.Tactic Idealize.ShloMosaic.StableHlo Idealize.SL.Sem

variable (V : Valuation τ sig (Elt Ideal)) (d : FVec Ideal S3136x16384 .f32) (e : FVec Ideal S3136 .f32)
  (X : FVec Ideal S3136x1152 .f32) (B : FVec Ideal S16384x1152 .f32)

/-- A row sliced out of a table at its own number. -/
theorem slice_row {n : ℕ} (B : (⟨2, ![n, 1152]⟩ : Shape).Idx → EReal) (start : Fin 2 → Int) (h : (⟨2, ![n, 1152]⟩ : Shape).Slices (fun _ => 0) S1x1152) (k : Fin n)
    (h0 : start 0 = (k.val : Int)) (h1 : start 1 = 0) (x : Fin 1152) : Host.dynamicSlice S1x1152 B start h (ix2 0 x) = B (ix2 k x) := by
  have hk : (⟨2, ![n, 1152]⟩ : Shape).Slices ![k.val, 0] S1x1152 := ⟨rfl, fun a => match a with
    | 0 => by show k.val + 1 ≤ n; have := k.isLt; omega
    | 1 => by show 0 + 1152 ≤ 1152; omega⟩
  rw [Host.dynamicSlice_eq_extractStridedSlice S1x1152 B start ![k.val, 0] h hk fun a => match a with
    | 0 => h0
    | 1 => h1]
  refine congrArg B (funext fun a => Fin.ext ?_)
  match a with
  | 0 => rfl
  | 1 => exact Nat.zero_add _

/-- An entry sliced out of a list at its own number. -/
theorem slice_entry {α : Type} {n : ℕ} (v : (⟨1, ![n]⟩ : Shape).Idx → α) (start : Fin 1 → Int) (h : (⟨1, ![n]⟩ : Shape).Slices (fun _ => 0) S1) (k : Fin n)
    (h0 : start 0 = (k.val : Int)) : Host.dynamicSlice S1 v start h (ix1 0) = v (ix1 k) := by
  have hk : (⟨1, ![n]⟩ : Shape).Slices ![k.val] S1 := ⟨rfl, fun a => match a with
    | 0 => by show k.val + 1 ≤ n; have := k.isLt; omega⟩
  rw [Host.dynamicSlice_eq_extractStridedSlice S1 v start ![k.val] h hk fun a => match a with
    | 0 => h0]
  refine congrArg v (funext fun a => Fin.ext ?_)
  match a with
  | 0 => rfl

theorem first_eq : (Shape.Idx.first h_S_ : S_.Idx) = ix0 := funext fun a => a.elim0

/-- A word of a number in range is not wrapped. -/
theorem word_kept {i : IVec S_ 32} {k : ℕ} (hk : k < 2 ^ 31) (d : IVec S_ 32) (h : i ix0 = BitVec.ofNat 32 k) :
    (select (cmpi .slt i (constantI S_ 32 0#32)) d i (Shape.Idx.first h_S_)).toInt = (k : Int) := by
  rw [first_eq, select_slt_zero_of_nonneg _ _ _ _ (by rw [h, toInt_word hk]; omega), h, toInt_word hk]

/-- Each patch's nearest row. -/
theorem v19_eq (hd : V (Proc.devRef .tc main_v17) = d) (r : Fin 3136) (k : Fin 16384) (hk : FirstMin (fun x : Fin 16384 => d (ix2 r x)) k) :
    (after opsPick V (Proc.devRef .tc main_v19) : IVec S3136 32) (ix1 r) = BitVec.ofNat 32 k.val := by
  unfold opsPick
  after_reads_simp
  rw [hd]
  exact argmin_eq d r k hk

/-- The hardest patch. -/
theorem v20_eq (he : V (Proc.devRef .tc main_v18) = e) (k : Fin 3136) (hk : FirstMax (fun x : Fin 3136 => e (ix1 x)) k) :
    (after opsPick V (Proc.devRef .tc main_v20) : IVec S_ 32) ix0 = BitVec.ofNat 32 k.val := by
  unfold opsPick
  after_reads_simp
  rw [he]
  exact argmax_eq e k hk

/-- Its distance. -/
theorem v21_eq (he : V (Proc.devRef .tc main_v18) = e) :
    (after opsPick V (Proc.devRef .tc main_v21) : FVec Ideal S_ .f32) ix0 = Finset.univ.sup fun r : Fin 3136 => e (ix1 r) := by
  unfold opsPick
  after_reads_simp
  rw [he, ← fold_max_eq_sup, ← bits_bot]
  pointwise []

/-- A row flattened and given back its axis of length one. -/
theorem flat_row (S : FVec Ideal S1x1152 .f32) (x : Fin 1152) :
    (broadcastInDim S1x1152 ![1] bcast_S1152_S1x1152_1 (fun i => shapeCast S1152 S shapeCasts_S1x1152_S1152 i) : FVec Ideal S1x1152 .f32) (ix2 0 x) = S (ix2 0 x) := by
  pointwise []

theorem flat_word (w : IVec S1 32) : (fun i => shapeCast S_ w shapeCasts_S1_S_ i : IVec S_ 32) ix0 = w (ix1 0) := by
  pointwise []

/-- A word among several, taken at the word of its own number. -/
theorem entry_word (v : IVec S3136 32) (i : IVec S_ 32) (k : Fin 3136) (h : i ix0 = BitVec.ofNat 32 k.val) :
    Host.dynamicSlice S1 v (fun k => ((![select (cmpi .slt i (constantI S_ 32 0#32)) (addi i (constantI S_ 32 3136#32)) i] : Fin 1 → IVec S_ 32) k
      (Shape.Idx.first h_S_)).toInt) sliceFits_S3136_S1 (ix1 0) = v (ix1 k) := by
  have hn := k.isLt
  exact slice_entry (α := BitVec 32) (n := 3136) v _ sliceFits_S3136_S1 k (word_kept (i := i) (k := k.val) (by omega) _ h)

variable (v : IVec S3136 32) (i : IVec S_ 32)

/-- The hardest patch's row. -/
theorem v30_eq (hX : V (Proc.devRef .tc main_arg0) = X) (hi : V (Proc.devRef .tc main_v20) = i) (k : Fin 3136) (hk : i ix0 = BitVec.ofNat 32 k.val)
    (x : Fin 1152) : (after opsRows V (Proc.devRef .tc main_v30) : FVec Ideal S1x1152 .f32) (ix2 0 x) = X (ix2 k x) := by
  have hn := k.isLt
  unfold opsRows
  after_reads_simp [unaryIndexed_result_read, indexContents_cons, indexContents_empty]
  rw [hX, hi]
  refine (flat_row _ x).trans ?_
  refine slice_row X _ sliceFits_S3136x1152_S1x1152 k ?_ ?_ x
  · exact word_kept (i := i) (k := k.val) (by omega) _ hk
  · rfl

/-- The library row nearest to it. -/
theorem v44_eq (hB : V (Proc.devRef .tc main_arg1) = B) (hv : V (Proc.devRef .tc main_v19) = v) (hi : V (Proc.devRef .tc main_v20) = i) (k : Fin 3136)
    (hk : i ix0 = BitVec.ofNat 32 k.val) (j : Fin 16384) (hj : v (ix1 k) = BitVec.ofNat 32 j.val) (x : Fin 1152) :
    (after opsRows V (Proc.devRef .tc main_v44) : FVec Ideal S1x1152 .f32) (ix2 0 x) = B (ix2 j x) := by
  have hm := j.isLt
  have hw := ((flat_word _).trans (entry_word v i k hk)).trans hj
  unfold opsRows
  after_reads_simp [unaryIndexed_result_read, indexContents_cons, indexContents_empty]
  rw [hB, hv, hi]
  refine (flat_row _ x).trans ?_
  refine slice_row B _ sliceFits_S16384x1152_S1x1152 j ?_ ?_ x
  · exact word_kept (k := j.val) (by omega) _ hw
  · rfl

end Cert.ReferenceIdeal.Hand

end
-- ==== Proof.RefDist.lean ====
/- The reference's distances, over the extended reals: clamped square roots of the squared distances, and each patch's least one. -/
module

public import proofs.«01_k».proof.Proof.RefRun
public import proofs.«01_k».proof.Proof.Words
public import Idealize.ShloMosaic.Lib.IdealHost

@[expose] public section

set_option maxRecDepth 16384

noncomputable section

namespace Cert.ReferenceIdeal.Hand

open Cert.ReferenceIdeal Cert.ReferenceIdeal.Gen Cert.ReferenceIdeal.Facts Cert.Model
open Idealize.ShloMosaic Idealize.ShloMosaic.TcCoe Idealize.ShloMosaic.Tactic Idealize.ShloMosaic.StableHlo Idealize.SL.Sem

variable (V : Valuation τ sig (Elt Ideal))

/-- The squared distances, as the reference writes them. -/
theorem distance_eq (X : FVec Ideal S3136x1152 .f32) (B : FVec Ideal S16384x1152 .f32) (r : Fin 3136) (k : Fin 16384) :
    root (∑ x, X (ix2 r x) * X (ix2 r x) + ∑ x, B (ix2 k x) * B (ix2 k x) - Ideal.ofBits .f32 1073741824#32 * ∑ x, X (ix2 r x) * B (ix2 k x))
      = root (sqd (row X r) (row B k)) := by
  rw [bits_two]; rfl

/-- A patch's distance to a library row. -/
theorem v17_eq (X : FVec Ideal S3136x1152 .f32) (B : FVec Ideal S16384x1152 .f32) (hX : V (Proc.devRef .tc main_arg0) = X)
    (hB : V (Proc.devRef .tc main_arg1) = B) (r : Fin 3136) (k : Fin 16384) :
    (after opsDist V (Proc.devRef .tc main_v17) : FVec Ideal S3136x16384 .f32) (ix2 r k) = root (sqd (row X r) (row B k)) := by
  unfold opsDist
  after_reads_simp
  rw [hX, hB, ← distance_eq]
  pointwise []
  rfl

/-- The least entry of each row of a table, as the reference reduces for it. -/
theorem reduce_min (d : FVec Ideal S3136x16384 .f32) (r : Fin 3136) :
    (Host.reduce FloatOps.minimumf d (constant S_ .f32 0x7F800000#32) reducesTo_S3136x16384_S3136_d1 h_S_ : FVec Ideal S3136 .f32) (ix1 r)
      = Finset.univ.inf fun k : Fin 16384 => d (ix2 r k) := by
  rw [← fold_min_eq_inf, ← bits_top]
  pointwise []

theorem v18_of_v17 : (after opsDist V (Proc.devRef .tc main_v18) : FVec Ideal S3136 .f32)
    = (Host.reduce FloatOps.minimumf (after opsDist V (Proc.devRef .tc main_v17) : FVec Ideal S3136x16384 .f32) (constant (F := Ideal) S_ .f32 0x7F800000#32)
        reducesTo_S3136x16384_S3136_d1 h_S_ : FVec Ideal S3136 .f32) := by
  unfold opsDist
  after_reads_simp

/-- A patch's least distance. -/
theorem v18_eq (X : FVec Ideal S3136x1152 .f32) (B : FVec Ideal S16384x1152 .f32) (hX : V (Proc.devRef .tc main_arg0) = X)
    (hB : V (Proc.devRef .tc main_arg1) = B) (r : Fin 3136) :
    (after opsDist V (Proc.devRef .tc main_v18) : FVec Ideal S3136 .f32) (ix1 r) = root (Finset.univ.inf fun k : Fin 16384 => sqd (row X r) (row B k)) := by
  rw [v18_of_v17, reduce_min, root_inf]
  simp only [v17_eq V X B hX hB]

end Cert.ReferenceIdeal.Hand

end
-- ==== Proof.Sorting.lean ====
/- A stable sort by the entries of a table puts first the first least entry, then the first least of the rest, and so on. -/
module

public import proofs.«01_k».proof.Proof.Read2
public import Idealize.ShloMosaic.Lib.SortFacts

@[expose] public section

set_option maxRecDepth 16384

noncomputable section

namespace Cert.Model

open Idealize.ShloMosaic

variable {n : ℕ} (f : Fin n → EReal)

/-- Position `x` goes ahead of position `y`: its entry is smaller, or the same and it comes first. -/
def Ahead (x y : Fin n) : Prop := f x < f y ∨ (f x = f y ∧ x < y)

theorem Ahead.trans {f : Fin n → EReal} {x y z : Fin n} (h : Ahead f x y) (h' : Ahead f y z) : Ahead f x z := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- The comparison the sort makes: the entries alone. -/
def less (x y : Fin n) : Bool := decide (f x < f y)

theorem pairwise_insert (a : Fin n) (l : List (Fin n)) (hl : l.Pairwise (Ahead f)) (ha : ∀ b ∈ l, a < b) : (insertBefore (less f) a l).Pairwise (Ahead f) := by
  induction l with
  | nil => exact List.pairwise_singleton _ _
  | cons b l ih =>
    obtain ⟨hb, hl⟩ := List.pairwise_cons.mp hl
    unfold insertBefore
    by_cases h : f b < f a
    · rw [if_pos (show less f b a = true from decide_eq_true h)]
      refine List.pairwise_cons.mpr ⟨fun x hx => ?_, ih hl fun x hx => ha x (List.mem_cons_of_mem _ hx)⟩
      rcases List.mem_cons.mp ((perm_insertBefore _ a l).mem_iff.mp hx) with rfl | hx
      · exact Or.inl h
      · exact hb x hx
    · rw [if_neg (show ¬ less f b a = true from fun e => h (of_decide_eq_true e))]
      have hab : Ahead f a b := by
        rcases (not_lt.mp h).lt_or_eq with h | h
        · exact Or.inl h
        · exact Or.inr ⟨h, ha b List.mem_cons_self⟩
      refine List.pairwise_cons.mpr ⟨fun x hx => ?_, List.pairwise_cons.mpr ⟨hb, hl⟩⟩
      rcases List.mem_cons.mp hx with rfl | hx
      · exact hab
      · exact hab.trans (hb x hx)

theorem pairwise_sort (l : List (Fin n)) (hl : l.Pairwise (· < ·)) : (stableSort (less f) l).Pairwise (Ahead f) := by
  induction l with
  | nil => exact List.Pairwise.nil
  | cons a l ih =>
    obtain ⟨ha, hl⟩ := List.pairwise_cons.mp hl
    unfold stableSort
    exact pairwise_insert f a _ (ih hl) fun b hb => ha b ((perm_stableSort _ l).mem_iff.mp hb)

/-- Earlier places of the sorted order hold positions that go ahead. -/
theorem sorted_ahead (i j : Fin n) (h : i < j) : Ahead f (sortedFrom (less f) i) (sortedFrom (less f) j) := by
  have hp : (sortPositions n (less f)).Pairwise (Ahead f) := pairwise_sort f _ (List.pairwise_lt_finRange n)
  unfold sortedFrom
  exact List.pairwise_iff_get.mp hp _ _ h

/-- The first three places of the sorted order are the three picks, where every entry is finite. -/
theorem picks_sorted (hn : 2 < n) (hf : ∀ k, f k < ⊤) :
    Cert.KernelIdeal.Hand.Picks f (sortedFrom (less f) ⟨0, by omega⟩) (sortedFrom (less f) ⟨1, by omega⟩) (sortedFrom (less f) ⟨2, hn⟩) := by
  have hinj := sortedFrom_injective (less f)
  have hle : ∀ {x y : Fin n}, Ahead f x y → f x ≤ f y := fun h => h.elim (fun h => h.le) fun h => h.1.le
  have hlt : ∀ {x y : Fin n}, Ahead f x y → y < x → f x < f y := fun h hi => h.elim id fun h => absurd (h.2.trans hi) (lt_irrefl _)
  have h01 : sortedFrom (less f) ⟨1, by omega⟩ ≠ sortedFrom (less f) ⟨0, by omega⟩ := fun e => by have := congrArg Fin.val (hinj e); simp at this
  have h02 : sortedFrom (less f) ⟨2, hn⟩ ≠ sortedFrom (less f) ⟨0, by omega⟩ := fun e => by have := congrArg Fin.val (hinj e); simp at this
  have h12 : sortedFrom (less f) ⟨2, hn⟩ ≠ sortedFrom (less f) ⟨1, by omega⟩ := fun e => by have := congrArg Fin.val (hinj e); simp at this
  refine ⟨⟨fun j => ?_, fun j hj => ?_⟩, ⟨fun j => ?_, fun j hj => ?_⟩, ⟨fun j => ?_, fun j hj => ?_⟩⟩ <;>
    obtain ⟨i, rfl⟩ := sortedFrom_surjective (less f) j
  · rcases Nat.eq_zero_or_pos i.val with h | h
    · rw [show i = ⟨0, by omega⟩ from Fin.ext h]
    · exact hle (sorted_ahead f _ _ (Fin.lt_def.mpr h))
  · rcases Nat.eq_zero_or_pos i.val with h | h
    · rw [show i = ⟨0, by omega⟩ from Fin.ext h] at hj; exact absurd hj (lt_irrefl _)
    · exact hlt (sorted_ahead f _ _ (Fin.lt_def.mpr h)) hj
  · beta_reduce; rw [if_neg h01]
    split_ifs with h
    · exact le_top
    · have h0 : i.val ≠ 0 := fun e => h (by rw [show i = ⟨0, by omega⟩ from Fin.ext e])
      rcases Nat.lt_or_ge 1 i.val with h1 | h1
      · exact hle (sorted_ahead f _ _ (Fin.lt_def.mpr h1))
      · rw [show i = ⟨1, by omega⟩ from Fin.ext (by show i.val = 1; omega)]
  · beta_reduce; rw [if_neg h01]
    split_ifs with h
    · exact hf _
    · have h0 : i.val ≠ 0 := fun e => h (by rw [show i = ⟨0, by omega⟩ from Fin.ext e])
      rcases Nat.lt_or_ge 1 i.val with h1 | h1
      · exact hlt (sorted_ahead f _ _ (Fin.lt_def.mpr h1)) hj
      · rw [show i = ⟨1, by omega⟩ from Fin.ext (by show i.val = 1; omega)] at hj; exact absurd hj (lt_irrefl _)
  · beta_reduce; rw [if_neg h12, if_neg h02]
    split_ifs with h h'
    · exact le_top
    · exact le_top
    · have h0 : i.val ≠ 0 := fun e => h' (by rw [show i = ⟨0, by omega⟩ from Fin.ext e])
      have h1 : i.val ≠ 1 := fun e => h (by rw [show i = ⟨1, by omega⟩ from Fin.ext e])
      rcases Nat.lt_or_ge 2 i.val with h2 | h2
      · exact hle (sorted_ahead f _ _ (Fin.lt_def.mpr h2))
      · rw [show i = ⟨2, hn⟩ from Fin.ext (by show i.val = 2; omega)]
  · beta_reduce; rw [if_neg h12, if_neg h02]
    split_ifs with h h'
    · exact hf _
    · exact hf _
    · have h0 : i.val ≠ 0 := fun e => h' (by rw [show i = ⟨0, by omega⟩ from Fin.ext e])
      have h1 : i.val ≠ 1 := fun e => h (by rw [show i = ⟨1, by omega⟩ from Fin.ext e])
      rcases Nat.lt_or_ge 2 i.val with h2 | h2
      · exact hlt (sorted_ahead f _ _ (Fin.lt_def.mpr h2)) hj
      · rw [show i = ⟨2, hn⟩ from Fin.ext (by show i.val = 2; omega)] at hj; exact absurd hj (lt_irrefl _)

end Cert.Model

end
-- ==== Proof.RefTop.lean ====
/- The library rows the reference weighs the score with: the second and the third nearest to the row picked. -/
module

public import proofs.«01_k».proof.Proof.RefPick
public import proofs.«01_k».proof.Proof.RefDist
public import proofs.«01_k».proof.Proof.Sorting

@[expose] public section

set_option maxRecDepth 16384

noncomputable section

namespace Cert.ReferenceIdeal.Hand

open Cert.ReferenceIdeal Cert.ReferenceIdeal.Gen Cert.ReferenceIdeal.Facts Cert.Model
open Idealize.ShloMosaic Idealize.ShloMosaic.TcCoe Idealize.ShloMosaic.Tactic Idealize.ShloMosaic.StableHlo Idealize.SL.Sem

variable (V : Valuation τ sig (Elt Ideal))

theorem second_eq (M : FVec Ideal S1x1152 .f32) (B : FVec Ideal S16384x1152 .f32) (k : Fin 16384) :
    root (∑ x, M (ix2 0 x) * M (ix2 0 x) + ∑ x, B (ix2 k x) * B (ix2 k x) - Ideal.ofBits .f32 1073741824#32 * ∑ x, M (ix2 0 x) * B (ix2 k x))
      = root (sqd (row M 0) (row B k)) := by
  rw [bits_two]; rfl

/-- The distances of the library to the row picked, turned over. -/
theorem v62_eq (M : FVec Ideal S1x1152 .f32) (B : FVec Ideal S16384x1152 .f32) (hM : V (Proc.devRef .tc main_v44) = M)
    (hB : V (Proc.devRef .tc main_arg1) = B) (k : Fin 16384) :
    (after opsTop V (Proc.devRef .tc main_v62) : FVec Ideal S1x16384 .f32) (ix2 0 k) = -root (sqd (row M 0) (row B k)) := by
  unfold opsTop
  after_reads_simp
  rw [hM, hB, ← second_eq]
  pointwise []
  rfl

theorem along_eq (i k : Fin 16384) : ((ix2 0 i : S1x16384.Idx).along 1 k : S1x16384.Idx) = ix2 0 k := by
  funext a
  match a with
  | 0 => rfl
  | 1 => rfl

/-- The sort's comparison, of entries turned over. -/
theorem less_neg (y : FVec Ideal S1x16384 .f32) (k k' : Fin 16384) :
    (FloatOps.cmpfTotal CmpDirection.gt (y (ix2 0 k)) (y (ix2 0 k')) == 1#1) = less (fun k : Fin 16384 => -y (ix2 0 k)) k k' := by
  rw [Ideal.cmpfTotal_def]
  unfold less
  by_cases h : -y (ix2 0 k) < -y (ix2 0 k')
  · have h' : y (ix2 0 k') < y (ix2 0 k) := EReal.neg_lt_neg_iff.mp h
    simp [Ideal.cmp, h, h', CmpDirection.ordered]
  · have h' : ¬ y (ix2 0 k') < y (ix2 0 k) := fun e => h (EReal.neg_lt_neg_iff.mpr e)
    simp [Ideal.cmp, h, h', CmpDirection.ordered]

/-- The first entries of a row. -/
theorem head_eq (w : IVec S1x16384 32) (i : Fin 3) :
    extractStridedSlice S1x3 (fun _ => 0) w sliceFits_S1x16384_S1x3 (ix2 0 i) = w (ix2 0 (⟨i.val, by omega⟩ : Fin 16384)) := by
  refine congrArg w (funext fun a => Fin.ext ?_)
  match a with
  | 0 => rfl
  | 1 => exact Nat.zero_add _

theorem word_nonneg (k : Fin 16384) : 0 ≤ (BitVec.ofNat 32 k.val).toInt := by
  have := k.isLt
  rw [toInt_word (show k.val < 2 ^ 31 by omega)]; omega

/-- The word at a place of the sorted order. -/
theorem sorted_word (i : Fin 16384) (R : Fin 16384 → Fin 16384 → Bool) :
    iotaInDim S1x16384 32 1 ((ix2 0 i : S1x16384.Idx).along 1 (sortedFrom R i)) = BitVec.ofNat 32 (sortedFrom R i).val := by
  refine (congrArg (fun j : S1x16384.Idx => iotaInDim S1x16384 32 1 j) (along_eq i (sortedFrom R i))).trans ?_
  rfl

/-- The sort's positions, as words. -/
theorem topK_eq (y : FVec Ideal S1x16384 .f32) (i : Fin 3) :
    ((Host.topK S1x3 1 (FloatOps.cmpfTotal .gt) y sliceFits_S1x16384_S1x3).2 : IVec S1x3 32) (ix2 0 i)
      = BitVec.ofNat 32 (sortedFrom (less fun k : Fin 16384 => -y (ix2 0 k)) ⟨i.val, by omega⟩).val := by
  have hd : 1 < S1x16384.rank := by decide
  have hs : ∀ k k' : Fin 16384, (FloatOps.cmpfTotal CmpDirection.gt (y ((ix2 0 (⟨i.val, by omega⟩ : Fin 16384) : S1x16384.Idx).along 1 k))
      (y ((ix2 0 (⟨i.val, by omega⟩ : Fin 16384) : S1x16384.Idx).along 1 k')) == 1#1) = less (fun k : Fin 16384 => -y (ix2 0 k)) k k' := by
    intro k k'
    rw [along_eq, along_eq, less_neg]
  unfold Host.topK Host.sort2
  simp only [dif_pos hd]
  refine (head_eq _ i).trans ?_
  refine (sorted_word _ _).trans ?_
  exact congrArg (fun R : Fin 16384 → Fin 16384 → Bool => BitVec.ofNat 32 (sortedFrom R (⟨i.val, by omega⟩ : Fin 16384)).val)
    (funext fun k => funext fun k' => hs k k')

theorem next_entry (w : IVec S1x3 32) (i : Fin 2) :
    (fun i => shapeCast S2 (extractStridedSlice S1x2 ![0, 1] w slices_S1x3_S1x2_0_1) shapeCasts_S1x2_S2 i : IVec S2 32) (ix1 i)
      = w (ix2 0 (⟨i.val + 1, by omega⟩ : Fin 3)) := by
  pointwise []
  refine congrArg w (funext fun a => Fin.ext ?_)
  match a with
  | 0 => rfl
  | 1 => exact Nat.add_comm _ _

/-- The second and the third word of a row, none of them wrapped. -/
theorem next_word (w : IVec S1x3 32) (i : Fin 2) (hw : 0 ≤ (w (ix2 0 (⟨i.val + 1, by omega⟩ : Fin 3))).toInt) :
    (broadcastInDim S2x1 ![0] bcast_S2_S2x1_0
      (select (cmpi CmpIPredicate.slt (fun i => shapeCast S2 (extractStridedSlice S1x2 ![0, 1] w slices_S1x3_S1x2_0_1) shapeCasts_S1x2_S2 i)
          (broadcastInDim S2 ![] bcast_S_S2 (constantI S_ 32 0#32)))
        (addi (fun i => shapeCast S2 (extractStridedSlice S1x2 ![0, 1] w slices_S1x3_S1x2_0_1) shapeCasts_S1x2_S2 i)
          (broadcastInDim S2 ![] bcast_S_S2 (constantI S_ 32 16384#32)))
        fun i => shapeCast S2 (extractStridedSlice S1x2 ![0, 1] w slices_S1x3_S1x2_0_1) shapeCasts_S1x2_S2 i) : IVec S2x1 32) (ix2 i 0)
      = w (ix2 0 (⟨i.val + 1, by omega⟩ : Fin 3)) := by
  have e := next_entry w i
  generalize (fun i => shapeCast S2 (extractStridedSlice S1x2 ![0, 1] w slices_S1x3_S1x2_0_1) shapeCasts_S1x2_S2 i : IVec S2 32) = u at e ⊢
  refine Eq.trans ?_ ((select_slt_zero_of_nonneg u (addi u (constantI S2 32 16384#32)) u (ix1 i) (by rw [e]; exact hw)).trans e)
  pointwise []

variable (y : FVec Ideal S1x16384 .f32) (hy : V (Proc.devRef .tc main_v62) = y)

include hy

/-- The words of the two rows weighed with. -/
theorem v70_eq (i : Fin 2) : (after opsNext V (Proc.devRef .tc main_v70) : IVec S2x1 32) (ix2 i 0)
    = BitVec.ofNat 32 (sortedFrom (less fun k : Fin 16384 => -y (ix2 0 k)) ⟨i.val + 1, by omega⟩).val := by
  have ht := topK_eq y ⟨i.val + 1, by omega⟩
  unfold opsNext
  after_reads_simp
  rw [hy]
  exact (next_word _ i (by rw [ht]; exact word_nonneg _)).trans ht

end Cert.ReferenceIdeal.Hand

end
-- ==== Proof.RefMap.lean ====
/- The reference's map, over the extended reals: its weights, and the enlargement of the nearest distances. -/
module

public import proofs.«01_k».proof.Proof.RefRun
public import proofs.«01_k».proof.Proof.Weights
public import Idealize.ShloMosaic.Lib.IdealHost

@[expose] public section

set_option maxRecDepth 16384

noncomputable section

namespace Cert.ReferenceIdeal.Hand

open Cert.ReferenceIdeal Cert.ReferenceIdeal.Gen Cert.ReferenceIdeal.Facts Cert.Model
open Idealize.ShloMosaic Idealize.ShloMosaic.TcCoe Idealize.ShloMosaic.Tactic Idealize.ShloMosaic.StableHlo Idealize.SL.Sem

variable (V : Valuation τ sig (Elt Ideal))

theorem scale_eq : (id (maximumf (constant S_ .f32 1048576000#32) (constant S_ .f32 1065353216#32)) : FVec Ideal S_ .f32) ix0 = 1 := by
  show max (Ideal.ofBits .f32 1048576000#32) (Ideal.ofBits .f32 1065353216#32) = 1
  rw [bits_quarter, Ideal.ofBits_one_f32, ← EReal.coe_one, coe_max']
  norm_num

/-- The rows' weights. -/
theorem v135_eq (a : Fin 56) (i : Fin 224) : (after opsMapA V (Proc.devRef .tc main_v135) : FVec Ideal S56x224 .f32) (ix2 a i) = weight i.val a.val := by
  unfold opsMapA
  after_reads_simp
  pointwise []
  rw [scale_eq, sample_eq (by have := i.isLt; omega)]
  rw [tent_eq' (by have := a.isLt; omega), Finset.sum_congr rfl fun x _ => tent_eq' (i := i.val) (by have := x.isLt; omega), sum_coe]
  exact weight_eq i.isLt a.val

/-- The columns' weights. -/
theorem v183_eq (a : Fin 56) (i : Fin 224) : (after opsMapB V (Proc.devRef .tc main_v183) : FVec Ideal S56x224 .f32) (ix2 a i) = weight i.val a.val := by
  unfold opsMapB
  after_reads_simp
  pointwise []
  rw [scale_eq, sample_eq (by have := i.isLt; omega)]
  rw [tent_eq' (by have := a.isLt; omega), Finset.sum_congr rfl fun x _ => tent_eq' (i := i.val) (by have := x.isLt; omega), sum_coe]
  exact weight_eq i.isLt a.val

/-- The cell a patch lies in. -/
def cell (a b : Fin 56) : Fin 3136 := ⟨a.val * 56 + b.val, by have := a.isLt; have := b.isLt; omega⟩

/-- The nearest distances laid out as an image. -/
theorem v87_eq (v : FVec Ideal S3136 .f32) (hv : V (Proc.devRef .tc main_v18) = v) (a b : Fin 56) :
    (after opsMapA V (Proc.devRef .tc main_v87) : FVec Ideal S1x1x56x56 .f32) (ix4 0 0 a b) = v (ix1 (cell a b)) := by
  unfold opsMapA
  after_reads_simp
  rw [hv]
  pointwise []
  rfl

theorem v186_eq (y : FVec Ideal S1x1x56x56 .f32) (hy : V (Proc.devRef .tc main_v87) = y) (wa wb : FVec Ideal S56x224 .f32)
    (ha : V (Proc.devRef .tc main_v135) = wa) (hb : V (Proc.devRef .tc main_v183) = wb) (i j : Fin 224) :
    (after opsMap V (Proc.devRef .tc main_v186) : FVec Ideal S1x1x224x224 .f32) (ix4 0 0 i j)
      = ∑ x, (∑ z, wa (ix2 z i) * y (ix4 0 0 z x)) * wb (ix2 x j) := by
  unfold opsMap
  after_reads_simp
  rw [hy, ha, hb]
  pointwise []

end Cert.ReferenceIdeal.Hand

end
-- ==== Proof.RefOut.lean ====
/- What the reference leaves in its map, in terms of its arguments. -/
module

public import proofs.«01_k».proof.Proof.RefMap
public import proofs.«01_k».proof.Proof.RefDist

@[expose] public section

set_option maxRecDepth 16384

noncomputable section

namespace Cert.ReferenceIdeal.Hand

open Cert.ReferenceIdeal Cert.ReferenceIdeal.Gen Cert.ReferenceIdeal.Facts Cert.Model
open Idealize.ShloMosaic Idealize.ShloMosaic.TcCoe Idealize.ShloMosaic.Tactic Idealize.ShloMosaic.StableHlo Idealize.SL.Sem

section kept

variable (V : Valuation τ sig (Elt Ideal))

theorem opsPick_keeps_v18 : after opsPick V (Proc.devRef .tc main_v18) = V (Proc.devRef .tc main_v18) := by unfold opsPick; after_reads_simp
theorem opsRows_keeps_v18 : after opsRows V (Proc.devRef .tc main_v18) = V (Proc.devRef .tc main_v18) := by unfold opsRows; after_reads_simp
theorem opsTop_keeps_v18 : after opsTop V (Proc.devRef .tc main_v18) = V (Proc.devRef .tc main_v18) := by unfold opsTop; after_reads_simp
theorem opsScore_keeps_v18 : after opsScore V (Proc.devRef .tc main_v18) = V (Proc.devRef .tc main_v18) := by unfold opsScore; after_reads_simp
theorem opsMapB_keeps_v87 : after opsMapB V (Proc.devRef .tc main_v87) = V (Proc.devRef .tc main_v87) := by unfold opsMapB; after_reads_simp
theorem opsMapB_keeps_v135 : after opsMapB V (Proc.devRef .tc main_v135) = V (Proc.devRef .tc main_v135) := by unfold opsMapB; after_reads_simp
theorem opsMapA_keeps_v86 : after opsMapA V (Proc.devRef .tc main_v86) = V (Proc.devRef .tc main_v86) := by unfold opsMapA; after_reads_simp
theorem opsMapB_keeps_v86 : after opsMapB V (Proc.devRef .tc main_v86) = V (Proc.devRef .tc main_v86) := by unfold opsMapB; after_reads_simp
theorem opsMap_keeps_v86 : after opsMap V (Proc.devRef .tc main_v86) = V (Proc.devRef .tc main_v86) := by unfold opsMap; after_reads_simp
theorem opsDist_keeps_arg0 : after opsDist V (Proc.devRef .tc main_arg0) = V (Proc.devRef .tc main_arg0) := by unfold opsDist; after_reads_simp
theorem opsDist_keeps_arg1 : after opsDist V (Proc.devRef .tc main_arg1) = V (Proc.devRef .tc main_arg1) := by unfold opsDist; after_reads_simp
theorem opsPick_keeps_arg1 : after opsPick V (Proc.devRef .tc main_arg1) = V (Proc.devRef .tc main_arg1) := by unfold opsPick; after_reads_simp
theorem opsRows_keeps_arg1 : after opsRows V (Proc.devRef .tc main_arg1) = V (Proc.devRef .tc main_arg1) := by unfold opsRows; after_reads_simp
theorem opsPick_keeps_arg0 : after opsPick V (Proc.devRef .tc main_arg0) = V (Proc.devRef .tc main_arg0) := by unfold opsPick; after_reads_simp
theorem opsRows_keeps_v21 : after opsRows V (Proc.devRef .tc main_v21) = V (Proc.devRef .tc main_v21) := by unfold opsRows; after_reads_simp
theorem opsTop_keeps_arg1 : after opsTop V (Proc.devRef .tc main_arg1) = V (Proc.devRef .tc main_arg1) := by unfold opsTop; after_reads_simp
theorem opsTop_keeps_v21 : after opsTop V (Proc.devRef .tc main_v21) = V (Proc.devRef .tc main_v21) := by unfold opsTop; after_reads_simp
theorem opsTop_keeps_v30 : after opsTop V (Proc.devRef .tc main_v30) = V (Proc.devRef .tc main_v30) := by unfold opsTop; after_reads_simp
theorem opsNext_keeps_v18 : after opsNext V (Proc.devRef .tc main_v18) = V (Proc.devRef .tc main_v18) := by unfold opsNext; after_reads_simp
theorem opsNext_keeps_arg1 : after opsNext V (Proc.devRef .tc main_arg1) = V (Proc.devRef .tc main_arg1) := by unfold opsNext; after_reads_simp
theorem opsNext_keeps_v21 : after opsNext V (Proc.devRef .tc main_v21) = V (Proc.devRef .tc main_v21) := by unfold opsNext; after_reads_simp
theorem opsNext_keeps_v30 : after opsNext V (Proc.devRef .tc main_v30) = V (Proc.devRef .tc main_v30) := by unfold opsNext; after_reads_simp

end kept

variable (V : Valuation τ sig (Elt Ideal)) (X : FVec Ideal S3136x1152 .f32) (B : FVec Ideal S16384x1152 .f32)
  (hX : V (Proc.devRef .tc main_arg0) = X) (hB : V (Proc.devRef .tc main_arg1) = B)

include hX hB

/-- The map, as the reference leaves it. -/
theorem reference_map (i j : Fin 224) : (after refOps V (Proc.devRef .tc main_v186) : FVec Ideal S1x1x224x224 .f32) (ix4 0 0 i j)
    = ∑ x : Fin 56, (∑ y : Fin 56, weight i.val y.val * root (Finset.univ.inf fun k : Fin 16384 => sqd (row X (cell y x)) (row B k))) * weight j.val x.val := by
  have e : after refOps V = after opsMap (after opsMapB (after opsMapA (after opsScore (after opsNext (after opsTop (after opsRows (after opsPick (after opsDist V)))))))) := by
    simp only [refOps, after_append]
  rw [e]
  refine Eq.trans (α := EReal) (v186_eq _ _ rfl _ _ rfl rfl i j) (Finset.sum_congr (M := EReal) rfl fun x _ => ?_)
  refine congrArg₂ (· * ·) (Finset.sum_congr (M := EReal) rfl fun y _ => congrArg₂ (· * ·) ?_ ?_) (v183_eq _ x j)
  · rw [opsMapB_keeps_v135]; exact v135_eq _ y i
  · rw [opsMapB_keeps_v87]
    refine (v87_eq _ _ rfl y x).trans ?_
    rw [opsScore_keeps_v18, opsNext_keeps_v18, opsTop_keeps_v18, opsRows_keeps_v18, opsPick_keeps_v18]
    exact v18_eq V X B hX hB _

end Cert.ReferenceIdeal.Hand

end
-- ==== Proof.Norm.lean ====
/- The squared distance of two rows written out in products, and written as a sum of squares: where they agree over the extended reals. -/
module

public import proofs.«01_k».proof.Proof.Model

@[expose] public section

noncomputable section

namespace Cert.Model

open Idealize.ShloMosaic

variable {n : ℕ}

/-- The squared distance of two rows, as a sum of squares. -/
def gap (x b : Fin n → EReal) : EReal := ∑ i, (x i - b i) * (x i - b i)

theorem coe_sum (s : Finset (Fin n)) (f : Fin n → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of finite entries is a row of real numbers. -/
theorem real_row {b : Fin n → EReal} (hb : ∀ i, b i ≠ ⊤ ∧ b i ≠ ⊥) : ∃ r : Fin n → ℝ, b = fun i => (r i : EReal) :=
  ⟨fun i => (b i).toReal, funext fun i => (EReal.coe_toReal (hb i).1 (hb i).2).symm⟩

theorem sqd_coe (x b : Fin n → ℝ) :
    sqd (fun i => (x i : EReal)) (fun i => (b i : EReal)) = ((((∑ i, x i * x i) + ∑ i, b i * b i) - 2 * ∑ i, x i * b i : ℝ) : EReal) := by
  unfold sqd
  rw [EReal.coe_sub, EReal.coe_add, EReal.coe_mul, coe_sum, coe_sum, coe_sum]
  simp only [EReal.coe_mul]
  rfl

theorem gap_coe (x b : Fin n → ℝ) : gap (fun i => (x i : EReal)) (fun i => (b i : EReal)) = ((∑ i, (x i - b i) * (x i - b i) : ℝ) : EReal) := by
  unfold gap
  rw [coe_sum]
  simp only [EReal.coe_mul, EReal.coe_sub]

theorem square_nonneg (x : EReal) : 0 ≤ x * x := by
  rcases le_total 0 x with h | h
  · exact mul_nonneg h h
  · have h' : 0 ≤ -x := EReal.neg_nonneg.mpr h
    have := mul_nonneg h' h'
    rwa [neg_mul_neg] at this

/-- A sum of squares with an infinite one among them is infinite. -/
theorem sum_squares_top (f : Fin n → EReal) (i : Fin n) (h : f i = ⊤ ∨ f i = ⊥) : ∑ i, f i * f i = ⊤ := by
  have hi : f i * f i = ⊤ := by rcases h with h | h <;> rw [h] <;> rfl
  exact top_le_iff.mp (hi ▸ Finset.single_le_sum (f := fun i => f i * f i) (fun j _ => square_nonneg (f j)) (Finset.mem_univ i))

/-- Two finite rows are at a finite distance. -/
theorem sqd_lt_top {x b : Fin n → EReal} (hx : ∀ i, x i ≠ ⊤ ∧ x i ≠ ⊥) (hb : ∀ i, b i ≠ ⊤ ∧ b i ≠ ⊥) : sqd x b < ⊤ := by
  obtain ⟨x, rfl⟩ := real_row hx
  obtain ⟨b, rfl⟩ := real_row hb
  rw [sqd_coe]
  exact EReal.coe_lt_top _

/-- From a finite row, a distance above zero is the sum of the squares, whatever the other row. -/
theorem gap_eq {x b : Fin n → EReal} (hb : ∀ i, b i ≠ ⊤ ∧ b i ≠ ⊥) (h : 0 < sqd x b) : gap x b = sqd x b := by
  by_cases hx : ∀ i, x i ≠ ⊤ ∧ x i ≠ ⊥
  · obtain ⟨x, rfl⟩ := real_row hx
    obtain ⟨b, rfl⟩ := real_row hb
    rw [sqd_coe, gap_coe]
    congr 1
    rw [Finset.mul_sum, ← Finset.sum_add_distrib, ← Finset.sum_sub_distrib]
    exact Finset.sum_congr rfl fun i _ => by ring
  · obtain ⟨i, hi⟩ := not_forall.mp hx
    have hi' : x i = ⊤ ∨ x i = ⊥ := by
      by_contra hc
      exact hi ⟨fun e => hc (Or.inl e), fun e => hc (Or.inr e)⟩
    have hgap : gap x b = ⊤ := by
      refine sum_squares_top (fun i => x i - b i) i ?_
      obtain ⟨r, rfl⟩ := real_row hb
      rcases hi' with e | e <;> simp only [e]
      · exact Or.inl (EReal.top_sub_coe _)
      · exact Or.inr (EReal.bot_sub _)
    rw [hgap]
    obtain ⟨r, rfl⟩ := real_row hb
    unfold sqd at h ⊢
    rw [sum_squares_top x i hi'] at h ⊢
    have hr : (⊤ : EReal) + ∑ i, (r i : EReal) * (r i : EReal) = ⊤ := by
      refine EReal.top_add_of_ne_bot (ne_of_gt (lt_of_lt_of_le (EReal.bot_lt_zero) (Finset.sum_nonneg fun i _ => square_nonneg _)))
    rw [hr] at h ⊢
    rw [sub_eq_add_neg] at h ⊢
    generalize -(2 * ∑ i, x i * (r i : EReal)) = c at h ⊢
    refine (EReal.top_add_of_ne_bot fun e => ?_).symm
    rw [e, EReal.add_bot] at h
    exact absurd h (by simp)

/-- Clamped square roots are compared as what they are the roots of. -/
theorem root_lt_root_iff (x y : EReal) : root x < root y ↔ max x 0 < max y 0 :=
  ⟨fun h => lt_of_not_ge fun h' => absurd h (not_lt.mpr (sqrt_le_sqrt (le_max_right _ _) h')), fun h => sqrt_lt_sqrt (le_max_right _ _) h⟩

end Cert.Model

end
-- ==== Proof.RefScore.lean ====
/- The reference's score. -/
module

public import proofs.«01_k».proof.Proof.RefTop
public import proofs.«01_k».proof.Proof.RefOut
public import proofs.«01_k».proof.Proof.Norm
public import Idealize.ShloMosaic.Lib.Routing.Ops

@[expose] public section

set_option maxRecDepth 16384

noncomputable section

namespace Cert.ReferenceIdeal.Hand

open Cert.ReferenceIdeal Cert.ReferenceIdeal.Gen Cert.ReferenceIdeal.Facts Cert.Model
open Idealize.ShloMosaic Idealize.ShloMosaic.TcCoe Idealize.ShloMosaic.Tactic Idealize.ShloMosaic.StableHlo Idealize.SL.Sem

/-- A library row taken by the word of its number. -/
theorem take_row (B : FVec Ideal S16384x1152 .f32) (w : IVec S2x1 32) (i : Fin 2) (k : Fin 16384) (hk : w (ix2 i 0) = BitVec.ofNat 32 k.val) (x : Fin 1152) :
    Host.gather gather_S16384x1152_S2x1_S2x1152_1_0_n_n_0_1_11152 B w (ix2 i x) = B (ix2 k x) :=
  Routing.gather_row (nb := 16384) (B := 1152) (n := 2) gather_S16384x1152_S2x1_S2x1152_1_0_n_n_0_1_11152 rfl rfl rfl rfl rfl B w i x k hk (by decide)

variable (V : Valuation τ sig (Elt Ideal)) (s : FVec Ideal S_ .f32) (P : FVec Ideal S1x1152 .f32) (w : IVec S2x1 32) (B : FVec Ideal S16384x1152 .f32)

/-- The score in terms of its distance, its row, the two rows weighed with and the library. -/
theorem v86_eq (hs : V (Proc.devRef .tc main_v21) = s) (hP : V (Proc.devRef .tc main_v30) = P) (hw : V (Proc.devRef .tc main_v70) = w)
    (hB : V (Proc.devRef .tc main_arg1) = B) (q t : Fin 16384) (hq : w (ix2 0 0) = BitVec.ofNat 32 q.val) (ht : w (ix2 1 0) = BitVec.ofNat 32 t.val) :
    (after opsScore V (Proc.devRef .tc main_v86) : FVec Ideal S_ .f32) ix0
      = Cert.KernelIdeal.Hand.score (s ix0) (Ideal.sqrt (gap (row P 0) (row B q))) (Ideal.sqrt (gap (row P 0) (row B t))) := by
  have eq : ∀ x, Host.gather gather_S16384x1152_S2x1_S2x1152_1_0_n_n_0_1_11152 B w (ix2 0 x) = B (ix2 q x) := take_row B w 0 q hq
  have et : ∀ x, Host.gather gather_S16384x1152_S2x1_S2x1152_1_0_n_n_0_1_11152 B w (ix2 1 x) = B (ix2 t x) := take_row B w 1 t ht
  unfold opsScore
  after_reads_simp
  rw [hs, hP, hw, hB]
  pointwise []
  rw [Fin.sum_univ_two]
  simp only [eq, et, Ideal.ofBits_one_f32]
  rfl

/-- What the reference leaves as its score: from the hardest patch `r`, the library row `j` nearest to it, and the rows second and third
    nearest to that one. -/
theorem reference_score (X : FVec Ideal S3136x1152 .f32) (hX : V (Proc.devRef .tc main_arg0) = X) (hB : V (Proc.devRef .tc main_arg1) = B)
    (r : Fin 3136) (j : Fin 16384) (hr : FirstMax (fun r => root (Finset.univ.inf fun k : Fin 16384 => sqd (row X r) (row B k))) r)
    (hj : FirstMin (fun k => root (sqd (row X r) (row B k))) j) :
    (after refOps V (Proc.devRef .tc main_v86) : FVec Ideal S_ .f32) ix0
      = Cert.KernelIdeal.Hand.score (Finset.univ.sup fun r => root (Finset.univ.inf fun k : Fin 16384 => sqd (row X r) (row B k)))
          (Ideal.sqrt (gap (row X r) (row B (sortedFrom (less fun k => root (sqd (row B j) (row B k))) 1))))
          (Ideal.sqrt (gap (row X r) (row B (sortedFrom (less fun k => root (sqd (row B j) (row B k))) 2)))) := by
  have e : after refOps V = after opsMap (after opsMapB (after opsMapA (after opsScore (after opsNext (after opsTop (after opsRows (after opsPick (after opsDist V)))))))) := by
    simp only [refOps, after_append]
  rw [e, opsMap_keeps_v86, opsMapB_keeps_v86, opsMapA_keeps_v86]
  have h0 : after opsDist V (Proc.devRef .tc main_arg0) = X := (opsDist_keeps_arg0 V).trans hX
  have h1 : after opsDist V (Proc.devRef .tc main_arg1) = B := (opsDist_keeps_arg1 V).trans hB
  have hd := v17_eq V X B hX hB
  have he := v18_eq V X B hX hB
  generalize after opsDist V = V1 at h0 h1 hd he ⊢
  have i19 := v19_eq V1 _ rfl r j (by simpa only [hd] using hj)
  have i20 := v20_eq V1 _ rfl r (by simpa only [he] using hr)
  have i21 := v21_eq V1 _ rfl
  simp only [he] at i21
  have h0' := (opsPick_keeps_arg0 V1).trans h0
  have h1' := (opsPick_keeps_arg1 V1).trans h1
  generalize after opsPick V1 = V2 at i19 i20 i21 h0' h1' ⊢
  have hrow := v30_eq V2 X _ h0' rfl r i20
  have hnear := v44_eq V2 B _ _ h1' rfl rfl r i20 j i19
  have j21 := congrFun (opsRows_keeps_v21 V2) ix0
  have h1'' := (opsRows_keeps_arg1 V2).trans h1'
  have j21' := j21.trans i21
  clear j21 i21 i19 i20
  generalize after opsRows V2 = V3 at hrow hnear j21' h1'' ⊢
  have hy := v62_eq V3 _ B rfl h1''
  rw [show row (V3 (Proc.devRef .tc main_v44) : FVec Ideal S1x1152 .f32) 0 = row B j from funext hnear] at hy
  have k21 := (congrFun (opsTop_keeps_v21 V3) ix0).trans j21'
  have k30 : ∀ x, (after opsTop V3 (Proc.devRef .tc main_v30) : FVec Ideal S1x1152 .f32) (ix2 0 x) = X (ix2 r x) :=
    fun x => (congrFun (opsTop_keeps_v30 V3) (ix2 0 x)).trans (hrow x)
  have k1 := (opsTop_keeps_arg1 V3).trans h1''
  clear hrow hnear j21'
  generalize after opsTop V3 = V4 at hy k21 k30 k1 ⊢
  obtain ⟨y, hyv⟩ : ∃ y : FVec Ideal S1x16384 .f32, V4 (Proc.devRef .tc main_v62) = y := ⟨_, rfl⟩
  have hw := v70_eq V4 y hyv
  rw [hyv] at hy
  have hneg : (fun k : Fin 16384 => -y (ix2 0 k)) = fun k => root (sqd (row B j) (row B k)) :=
    funext fun k => by rw [hy k, neg_neg]
  rw [hneg] at hw
  have l21 := (congrFun (opsNext_keeps_v21 V4) ix0).trans k21
  have l30 : ∀ x, (after opsNext V4 (Proc.devRef .tc main_v30) : FVec Ideal S1x1152 .f32) (ix2 0 x) = X (ix2 r x) :=
    fun x => (congrFun (opsNext_keeps_v30 V4) (ix2 0 x)).trans (k30 x)
  have l1 := (opsNext_keeps_arg1 V4).trans k1
  generalize after opsNext V4 = V5 at hw l21 l30 l1 ⊢
  refine (v86_eq V5 _ _ _ B rfl rfl rfl l1 _ _ (hw 0) (hw 1)).trans ?_
  rw [show row (V5 (Proc.devRef .tc main_v30) : FVec Ideal S1x1152 .f32) 0 = row X r from funext l30, l21]
  rfl

end Cert.ReferenceIdeal.Hand

end
-- ==== Proof.Equal.lean ====
/- The kernel's two results are the reference's. -/
module

public import proofs.«01_k».proof.Proof.KernelOut
public import proofs.«01_k».proof.Proof.RefScore
public import proofs.«01_k».proof.Pre_finite_library
public import Idealize.ShloMosaic.Lib.ReduceAll

@[expose] public section

set_option maxRecDepth 16384

noncomputable section

namespace Cert.Equal

open Cert.Model Cert.KernelIdeal.Hand
open Idealize.ShloMosaic Idealize.ShloMosaic.TcCoe Idealize.ShloMosaic.Tactic Idealize.ShloMosaic.StableHlo

variable (X : FVec Ideal ⟨2, ![3136, 1152]⟩ .f32) (B : FVec Ideal ⟨2, ![16384, 1152]⟩ .f32)

theorem pre_facts : Cert.Pre_finite_library.Facts := ⟨by decide, by decide, by decide⟩

/-- What the precondition says: every entry of the library is finite. -/
theorem library_finite [Cert.Pre_finite_library.Facts] (h : Cert.Pre_finite_library.fn (F := Ideal) X B = fun _ => 1#1) (k : Fin 16384) (i : Fin 1152) :
    row B k i ≠ ⊤ ∧ row B k i ≠ ⊥ := by
  have hi := Host.reduce_andi_all _ _ _ _ ix0 (congrFun h ix0) (ix2 k i)
  have hc : Ideal.cmp .olt (Host.absf B (ix2 k i)) (Ideal.ofBits .f32 2139095040#32) = 1#1 := hi
  rw [bits_top] at hc
  have habs : Host.absf B (ix2 k i) < ⊤ := by
    by_contra hn
    simp [Ideal.cmp, hn] at hc
  have habs' : max (row B k i) (-row B k i) < ⊤ := habs
  exact ⟨fun e => by rw [e] at habs'; simp at habs', fun e => by rw [e] at habs'; simp at habs'⟩

/-- A sorted order by clamped square roots is the order by what they are the roots of. -/
theorem less_root {n : ℕ} (f : Fin n → EReal) : less (fun k => root (f k)) = less (fun k => max (f k) 0) :=
  funext fun x => funext fun y => decide_eq_decide.mpr (root_lt_root_iff (f x) (f y))

/-- A score whose distance is zero is zero. -/
theorem score_zero (a b : EReal) : score 0 a b = 0 := mul_zero _

/-- The two scores are one number, where the library is finite. -/
theorem score_eq (hB : ∀ (k : Fin 16384) (i : Fin 1152), row B k i ≠ ⊤ ∧ row B k i ≠ ⊥) (u v : EReal)
    (hu : ∀ (r : Fin 3136) (j p q t : Fin 16384), FirstMax (fun r : Fin 3136 => max (nearest X B r) 0) r →
      FirstMin (fun k : Fin 16384 => sqd (row X r) (row B k)) j → Picks (fun k : Fin 16384 => max (sqd (row B j) (row B k)) 0) p q t →
      u = score (Ideal.sqrt (Finset.univ.sup fun r : Fin 3136 => max (nearest X B r) 0)) (root (sqd (row X r) (row B q))) (root (sqd (row X r) (row B t))))
    (hv : ∀ (r : Fin 3136) (j : Fin 16384), FirstMax (fun r : Fin 3136 => root (nearest X B r)) r → FirstMin (fun k : Fin 16384 => root (sqd (row X r) (row B k))) j →
      v = score (Finset.univ.sup fun r : Fin 3136 => root (nearest X B r))
          (Ideal.sqrt (gap (row X r) (row B (sortedFrom (less fun k : Fin 16384 => root (sqd (row B j) (row B k))) 1))))
          (Ideal.sqrt (gap (row X r) (row B (sortedFrom (less fun k : Fin 16384 => root (sqd (row B j) (row B k))) 2))))) : u = v := by
  obtain ⟨r, hr⟩ := FirstMax.exists (by decide) fun r : Fin 3136 => max (nearest X B r) 0
  obtain ⟨j, hj⟩ := FirstMin.exists (by decide) fun k : Fin 16384 => sqd (row X r) (row B k)
  have hr' : FirstMax (fun r : Fin 3136 => root (nearest X B r)) r := hr.sqrt fun i => le_max_right _ _
  have hs : Ideal.sqrt (Finset.univ.sup fun r : Fin 3136 => max (nearest X B r) 0) = Finset.univ.sup fun r : Fin 3136 => root (nearest X B r) :=
    sqrt_sup _ ⟨r, Finset.mem_univ r⟩ _ fun i => le_max_right _ _
  have hfin : ∀ k, max (sqd (row B j) (row B k)) 0 < ⊤ := fun k => max_lt (sqd_lt_top (hB j) (hB k)) (by simp)
  have hp := picks_sorted (fun k : Fin 16384 => max (sqd (row B j) (row B k)) 0) (by decide) hfin
  have hu' := hu r j _ _ _ hr hj hp
  rcases (le_max_right (nearest X B r) 0).eq_or_lt with h0 | h0
  · have hz : (Finset.univ.sup fun r : Fin 3136 => root (nearest X B r)) = 0 := by
      rw [hr'.sup_eq]; show Ideal.sqrt (max (nearest X B r) 0) = 0; rw [← h0, sqrt_zero]
    obtain ⟨j', hj'⟩ := FirstMin.exists (by decide) fun k : Fin 16384 => root (sqd (row X r) (row B k))
    rw [hu', hv r j' hr' hj', hs, hz, score_zero, score_zero]
  · have hpos : ∀ k, 0 < sqd (row X r) (row B k) := fun k =>
      lt_of_lt_of_le ((lt_max_iff.mp h0).resolve_right (lt_irrefl _)) (Finset.inf_le (Finset.mem_univ k))
    have hj' : FirstMin (fun k : Fin 16384 => root (sqd (row X r) (row B k))) j :=
      hj.map root root_mono fun y hy => root_lt_root hy ((hpos j).trans hy)
    have hroot : ∀ k, Ideal.sqrt (gap (row X r) (row B k)) = root (sqd (row X r) (row B k)) := fun k => by
      rw [gap_eq (hB k) (hpos k)]; unfold root; rw [max_eq_left (hpos k).le]
    rw [hu', hv r j hr' hj', hs, hroot, hroot, less_root]
    rfl

section results

open Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))

include h0 h1

/-- The first result, the score. -/
theorem score_result [Cert.Pre_finite_library.Facts]
    (hpre : Cert.Pre_finite_library.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    (after Cert.ReferenceIdeal.Hand.refOps (launchContents m' c) (Proc.devRef .tc Cert.ReferenceIdeal.main_v86) : FVec Ideal Cert.ReferenceIdeal.S_ .f32)
      = (W5 m c (Proc.devRef .tc Cert.KernelIdeal.main_v0_0) : FVec Ideal Cert.KernelIdeal.S_ .f32) := by
  obtain ⟨X, hX⟩ : ∃ X : FVec Ideal ⟨2, ![3136, 1152]⟩ .f32, m ((c.tc : Thread Cert.KernelIdeal.nD Cert.KernelIdeal.τ).loc Cert.KernelIdeal.main_arg0) = X := ⟨_, rfl⟩
  obtain ⟨B, hB⟩ : ∃ B : FVec Ideal ⟨2, ![16384, 1152]⟩ .f32, m ((c.tc : Thread Cert.KernelIdeal.nD Cert.KernelIdeal.τ).loc Cert.KernelIdeal.main_arg1) = B := ⟨_, rfl⟩
  rw [hX, hB] at hpre
  funext i
  rw [show i = ix0 from funext fun a => a.elim0]
  exact (score_eq X B (library_finite X B hpre) _ _ (kernel_score m c X B hX hB)
    (Cert.ReferenceIdeal.Hand.reference_score (launchContents m' c) B X (h0.trans hX) (h1.trans hB))).symm

/-- The second result, the map. -/
theorem map_result :
    (after Cert.ReferenceIdeal.Hand.refOps (launchContents m' c) (Proc.devRef .tc Cert.ReferenceIdeal.main_v186) : FVec Ideal Cert.ReferenceIdeal.S1x1x224x224 .f32)
      = (W5 m c (Proc.devRef .tc Cert.KernelIdeal.main_v0_1) : FVec Ideal Cert.KernelIdeal.S1x1x224x224 .f32) := by
  obtain ⟨X, hX⟩ : ∃ X : FVec Ideal ⟨2, ![3136, 1152]⟩ .f32, m ((c.tc : Thread Cert.KernelIdeal.nD Cert.KernelIdeal.τ).loc Cert.KernelIdeal.main_arg0) = X := ⟨_, rfl⟩
  obtain ⟨B, hB⟩ : ∃ B : FVec Ideal ⟨2, ![16384, 1152]⟩ .f32, m ((c.tc : Thread Cert.KernelIdeal.nD Cert.KernelIdeal.τ).loc Cert.KernelIdeal.main_arg1) = B := ⟨_, rfl⟩
  funext i
  have hi : i = ix4 0 0 (i 2) (i 3) := by
    funext a
    match a with
    | 0 => exact Subsingleton.elim (α := Fin 1) _ _
    | 1 => exact Subsingleton.elim (α := Fin 1) _ _
    | 2 => rfl
    | 3 => rfl
  rw [hi]
  exact (Cert.ReferenceIdeal.Hand.reference_map (launchContents m' c) X B (h0.trans hX) (h1.trans hB) (i 2) (i 3)).trans
    (kernel_map m c X B hX hB (i 2) (i 3)).symm

end results

end Cert.Equal

end
-- ==== Proof.lean ====
/- The claims, assembled. The programs' runs are in Proof/Run, Proof/BitsRun and Proof/RefRun; that their results agree is in Proof/Equal. -/
module

public import proofs.«01_k».proof.Defs
public import proofs.«01_k».proof.Proof.BitsRun
public import proofs.«01_k».proof.Proof.Equal

@[expose] public section

set_option maxRecDepth 16384

noncomputable section

namespace Cert.Proof

open Idealize.ShloMosaic Idealize.ShloMosaic.TcCoe Idealize.SL.Sem

/-- The kernel's two results are the reference's, wherever the library is finite. -/
theorem algebraic : Cert.algebraic_KernelIdeal_ReferenceIdeal_pre_finite_library (hKernelIdeal := Cert.KernelIdeal.Gen.facts)
    (hReferenceIdeal := Cert.ReferenceIdeal.Gen.facts) (hPre_finite_library := Cert.Equal.pre_facts) := by
  intro m g m' g' hpre hagree
  haveI := Cert.Equal.pre_facts
  refine ⟨fun c => Cert.KernelIdeal.Hand.W5 m c (Proc.devRef .tc Cert.KernelIdeal.main_v0_0),
    fun c => Cert.KernelIdeal.Hand.W5 m c (Proc.devRef .tc Cert.KernelIdeal.main_v0_1), ?_, ?_⟩
  · exact (θ_run _ _ _).mono (fun r h c => ⟨h.1 c Cert.KernelIdeal.main_v0_0 rfl, h.1 c Cert.KernelIdeal.main_v0_1 rfl,
      (h.1 c Cert.KernelIdeal.main_arg0 rfl).trans (Cert.KernelIdeal.Hand.W5_arg0 m c),
      (h.1 c Cert.KernelIdeal.main_arg1 rfl).trans (Cert.KernelIdeal.Hand.W5_arg1 m c)⟩) (Cert.KernelIdeal.Hand.run m g)
  · exact (θ_run _ _ _).mono (fun r h c => ⟨
      (h c Cert.ReferenceIdeal.main_v86).trans (Cert.Equal.score_result m m' c (hagree c).1 (hagree c).2 (hpre c)),
      (h c Cert.ReferenceIdeal.main_v186).trans (Cert.Equal.map_result m m' c (hagree c).1 (hagree c).2),
      (h c Cert.ReferenceIdeal.main_arg0).trans (Cert.ReferenceIdeal.Hand.after_arg0 _),
      (h c Cert.ReferenceIdeal.main_arg1).trans (Cert.ReferenceIdeal.Hand.after_arg1 _)⟩) (Cert.ReferenceIdeal.Hand.run m' g')

theorem claim : Cert.Claim :=
  ⟨Cert.Kernel.Gen.facts, Cert.KernelIdeal.Gen.facts, Cert.ReferenceIdeal.Gen.facts, Cert.Equal.pre_facts,
    fun m g _ => Cert.Kernel.Hand.frame_run m g,
    fun m g _ => Cert.KernelIdeal.Hand.frame_run m g,
    fun m g _ => Cert.KernelIdeal.Hand.frame_run m g,
    fun m g _ => Cert.ReferenceIdeal.Hand.frame_run m g,
    fun m g _ => Cert.ReferenceIdeal.Hand.frame_run m g,
    trivial, algebraic⟩

end Cert.Proof

end
